-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeIdeal_finite_inputs [hPre_finite_inputs : Cert.Pre_finite_inputs.Facts] (m : (ℓ : Loc Cert.RopeIdeal.nD Cert.RopeIdeal.τ Cert.RopeIdeal.sig) → Buf (Elt Ideal) ℓ) : Prop :=
  ∀ c : Dev Cert.RopeIdeal.nD,
    (Cert.Pre_finite_inputs.fn (F := Ideal) (m ((c.tc : Thread Cert.RopeIdeal.nD Cert.RopeIdeal.τ).loc Cert.RopeIdeal.main_arg0)) (m ((c.tc : Thread Cert.RopeIdeal.nD Cert.RopeIdeal.τ).loc Cert.RopeIdeal.main_arg1)) (m ((c.tc : Thread Cert.RopeIdeal.nD Cert.RopeIdeal.τ).loc Cert.RopeIdeal.main_arg2)) (m ((c.tc : Thread Cert.RopeIdeal.nD Cert.RopeIdeal.τ).loc Cert.RopeIdeal.main_arg3))) = (fun _ => 1#1)

def Pre_RopeReferenceIdeal (m : (ℓ : Loc Cert.RopeReferenceIdeal.nD Cert.RopeReferenceIdeal.τ Cert.RopeReferenceIdeal.sig) → Buf (Elt Ideal) ℓ) : Prop :=
  True

def Pre_RopeReferenceIdeal_finite_inputs [hPre_finite_inputs : Cert.Pre_finite_inputs.Facts] (m : (ℓ : Loc Cert.RopeReferenceIdeal.nD Cert.RopeReferenceIdeal.τ Cert.RopeReferenceIdeal.sig) → Buf (Elt Ideal) ℓ) : Prop :=
  ∀ c : Dev Cert.RopeReferenceIdeal.nD,
    (Cert.Pre_finite_inputs.fn (F := Ideal) (m ((c.tc : Thread Cert.RopeReferenceIdeal.nD Cert.RopeReferenceIdeal.τ).loc Cert.RopeReferenceIdeal.main_arg0)) (m ((c.tc : Thread Cert.RopeReferenceIdeal.nD Cert.RopeReferenceIdeal.τ).loc Cert.RopeReferenceIdeal.main_arg1)) (m ((c.tc : Thread Cert.RopeReferenceIdeal.nD Cert.RopeReferenceIdeal.τ).loc Cert.RopeReferenceIdeal.main_arg2)) (m ((c.tc : Thread Cert.RopeReferenceIdeal.nD Cert.RopeReferenceIdeal.τ).loc Cert.RopeReferenceIdeal.main_arg3))) = (fun _ => 1#1)

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierIdeal_finite_channels [hPre_finite_channels : Cert.Pre_finite_channels.Facts] (m : (ℓ : Loc Cert.FourierIdeal.nD Cert.FourierIdeal.τ Cert.FourierIdeal.sig) → Buf (Elt Ideal) ℓ) : Prop :=
  ∀ c : Dev Cert.FourierIdeal.nD,
    (Cert.Pre_finite_channels.fn (F := Ideal) (m ((c.tc : Thread Cert.FourierIdeal.nD Cert.FourierIdeal.τ).loc Cert.FourierIdeal.main_arg0)) (m ((c.tc : Thread Cert.FourierIdeal.nD Cert.FourierIdeal.τ).loc Cert.FourierIdeal.main_arg1))) = (fun _ => 1#1)

def Pre_FourierReferenceIdeal (m : (ℓ : Loc Cert.FourierReferenceIdeal.nD Cert.FourierReferenceIdeal.τ Cert.FourierReferenceIdeal.sig) → Buf (Elt Ideal) ℓ) : Prop :=
  True

def Pre_FourierReferenceIdeal_finite_channels [hPre_finite_channels : Cert.Pre_finite_channels.Facts] (m : (ℓ : Loc Cert.FourierReferenceIdeal.nD Cert.FourierReferenceIdeal.τ Cert.FourierReferenceIdeal.sig) → Buf (Elt Ideal) ℓ) : Prop :=
  ∀ c : Dev Cert.FourierReferenceIdeal.nD,
    (Cert.Pre_finite_channels.fn (F := Ideal) (m ((c.tc : Thread Cert.FourierReferenceIdeal.nD Cert.FourierReferenceIdeal.τ).loc Cert.FourierReferenceIdeal.main_arg0)) (m ((c.tc : Thread Cert.FourierReferenceIdeal.nD Cert.FourierReferenceIdeal.τ).loc Cert.FourierReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeIdeal_pre_finite_inputs [hRopeIdeal : Cert.RopeIdeal.Facts] [hPre_finite_inputs : Cert.Pre_finite_inputs.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal_finite_inputs m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3))
      ∧ r.2.sem = fun _ => 0)

def quiescent_RopeReferenceIdeal_pre_finite_inputs [hRopeReferenceIdeal : Cert.RopeReferenceIdeal.Facts] [hPre_finite_inputs : Cert.Pre_finite_inputs.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal_finite_inputs m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierIdeal_pre_finite_channels [hFourierIdeal : Cert.FourierIdeal.Facts] [hPre_finite_channels : Cert.Pre_finite_channels.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal_finite_channels m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierReferenceIdeal [hFourierReferenceIdeal : Cert.FourierReferenceIdeal.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def quiescent_FourierReferenceIdeal_pre_finite_channels [hFourierReferenceIdeal : Cert.FourierReferenceIdeal.Facts] [hPre_finite_channels : Cert.Pre_finite_channels.Facts] : Prop :=
  ∀ (m : (ℓ : Loc Cert.FourierReferenceIdeal.nD Cert.FourierReferenceIdeal.τ Cert.FourierReferenceIdeal.sig) → Buf (Elt Ideal) ℓ) (g : Dev Cert.FourierReferenceIdeal.nD → PrngReg), Pre_FourierReferenceIdeal_finite_channels m →
    θ_run (Cert.FourierReferenceIdeal.defs (F := Ideal)) (onTc (τ := Cert.FourierReferenceIdeal.τ) (Cert.FourierReferenceIdeal.main (F := Ideal))) ⟨m, fun _ => 0, g⟩ (fun r => (∀ c : Dev Cert.FourierReferenceIdeal.nD,
      r.2.mem ((c.tc : Thread Cert.FourierReferenceIdeal.nD Cert.FourierReferenceIdeal.τ).loc Cert.FourierReferenceIdeal.main_arg0) = m ((c.tc : Thread Cert.FourierReferenceIdeal.nD Cert.FourierReferenceIdeal.τ).loc Cert.FourierReferenceIdeal.main_arg0)
      ∧ r.2.mem ((c.tc : Thread Cert.FourierReferenceIdeal.nD Cert.FourierReferenceIdeal.τ).loc Cert.FourierReferenceIdeal.main_arg1) = m ((c.tc : Thread Cert.FourierReferenceIdeal.nD Cert.FourierReferenceIdeal.τ).loc Cert.FourierReferenceIdeal.main_arg1))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v36_0)) (v1 : (c : Dev Cert.MergeIdeal.nD) → Buf (Elt Ideal) ((c.tc : Thread Cert.MergeIdeal.nD Cert.MergeIdeal.τ).loc Cert.MergeIdeal.main_v36_1)) (v2 : (c : Dev Cert.MergeIdeal.nD) → Buf (Elt Ideal) ((c.tc : Thread Cert.MergeIdeal.nD Cert.MergeIdeal.τ).loc Cert.MergeIdeal.main_v36_2)) (v3 : (c : Dev Cert.MergeIdeal.nD) → Buf (Elt Ideal) ((c.tc : Thread Cert.MergeIdeal.nD Cert.MergeIdeal.τ).loc Cert.MergeIdeal.main_v36_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v36_0) = v0 c
          ∧ r.2.mem ((c.tc : Thread Cert.MergeIdeal.nD Cert.MergeIdeal.τ).loc Cert.MergeIdeal.main_v36_1) = v1 c
          ∧ r.2.mem ((c.tc : Thread Cert.MergeIdeal.nD Cert.MergeIdeal.τ).loc Cert.MergeIdeal.main_v36_2) = v2 c
          ∧ r.2.mem ((c.tc : Thread Cert.MergeIdeal.nD Cert.MergeIdeal.τ).loc Cert.MergeIdeal.main_v36_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v44) = v0 c
          ∧ r.2.mem ((c.tc : Thread Cert.MergeReferenceIdeal.nD Cert.MergeReferenceIdeal.τ).loc Cert.MergeReferenceIdeal.main_v46) = v1 c
          ∧ r.2.mem ((c.tc : Thread Cert.MergeReferenceIdeal.nD Cert.MergeReferenceIdeal.τ).loc Cert.MergeReferenceIdeal.main_v48) = v2 c
          ∧ r.2.mem ((c.tc : Thread Cert.MergeReferenceIdeal.nD Cert.MergeReferenceIdeal.τ).loc Cert.MergeReferenceIdeal.main_v52) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v13_0)) (v1 : (c : Dev Cert.ProjIdeal.nD) → Buf (Elt Ideal) ((c.tc : Thread Cert.ProjIdeal.nD Cert.ProjIdeal.τ).loc Cert.ProjIdeal.main_v13_1)) (v2 : (c : Dev Cert.ProjIdeal.nD) → Buf (Elt Ideal) ((c.tc : Thread Cert.ProjIdeal.nD Cert.ProjIdeal.τ).loc Cert.ProjIdeal.main_v13_2)) (v3 : (c : Dev Cert.ProjIdeal.nD) → Buf (Elt Ideal) ((c.tc : Thread Cert.ProjIdeal.nD Cert.ProjIdeal.τ).loc Cert.ProjIdeal.main_v13_3)) (v4 : (c : Dev Cert.ProjIdeal.nD) → Buf (Elt Ideal) ((c.tc : Thread Cert.ProjIdeal.nD Cert.ProjIdeal.τ).loc Cert.ProjIdeal.main_v13_4)) (v5 : (c : Dev Cert.ProjIdeal.nD) → Buf (Elt Ideal) ((c.tc : Thread Cert.ProjIdeal.nD Cert.ProjIdeal.τ).loc Cert.ProjIdeal.main_v13_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v13_0) = v0 c
          ∧ r.2.mem ((c.tc : Thread Cert.ProjIdeal.nD Cert.ProjIdeal.τ).loc Cert.ProjIdeal.main_v13_1) = v1 c
          ∧ r.2.mem ((c.tc : Thread Cert.ProjIdeal.nD Cert.ProjIdeal.τ).loc Cert.ProjIdeal.main_v13_2) = v2 c
          ∧ r.2.mem ((c.tc : Thread Cert.ProjIdeal.nD Cert.ProjIdeal.τ).loc Cert.ProjIdeal.main_v13_3) = v3 c
          ∧ r.2.mem ((c.tc : Thread Cert.ProjIdeal.nD Cert.ProjIdeal.τ).loc Cert.ProjIdeal.main_v13_4) = v4 c
          ∧ r.2.mem ((c.tc : Thread Cert.ProjIdeal.nD Cert.ProjIdeal.τ).loc Cert.ProjIdeal.main_v13_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v41) = v0 c
          ∧ r.2.mem ((c.tc : Thread Cert.ProjReferenceIdeal.nD Cert.ProjReferenceIdeal.τ).loc Cert.ProjReferenceIdeal.main_v42) = v1 c
          ∧ r.2.mem ((c.tc : Thread Cert.ProjReferenceIdeal.nD Cert.ProjReferenceIdeal.τ).loc Cert.ProjReferenceIdeal.main_v43) = v2 c
          ∧ r.2.mem ((c.tc : Thread Cert.ProjReferenceIdeal.nD Cert.ProjReferenceIdeal.τ).loc Cert.ProjReferenceIdeal.main_v40) = v3 c
          ∧ r.2.mem ((c.tc : Thread Cert.ProjReferenceIdeal.nD Cert.ProjReferenceIdeal.τ).loc Cert.ProjReferenceIdeal.main_v38) = v4 c
          ∧ r.2.mem ((c.tc : Thread Cert.ProjReferenceIdeal.nD Cert.ProjReferenceIdeal.τ).loc Cert.ProjReferenceIdeal.main_v39) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_Rope_RopeIdeal : Prop :=
  True

def algebraic_RopeIdeal_RopeReferenceIdeal_pre_finite_inputs [hRopeIdeal : Cert.RopeIdeal.Facts] [hRopeReferenceIdeal : Cert.RopeReferenceIdeal.Facts] [hPre_finite_inputs : Cert.Pre_finite_inputs.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal_finite_inputs m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v59_0)) (v1 : (c : Dev Cert.RopeIdeal.nD) → Buf (Elt Ideal) ((c.tc : Thread Cert.RopeIdeal.nD Cert.RopeIdeal.τ).loc Cert.RopeIdeal.main_v59_1)) (v2 : (c : Dev Cert.RopeIdeal.nD) → Buf (Elt Ideal) ((c.tc : Thread Cert.RopeIdeal.nD Cert.RopeIdeal.τ).loc Cert.RopeIdeal.main_v59_2)) (v3 : (c : Dev Cert.RopeIdeal.nD) → Buf (Elt Ideal) ((c.tc : Thread Cert.RopeIdeal.nD Cert.RopeIdeal.τ).loc Cert.RopeIdeal.main_v59_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v59_0) = v0 c
          ∧ r.2.mem ((c.tc : Thread Cert.RopeIdeal.nD Cert.RopeIdeal.τ).loc Cert.RopeIdeal.main_v59_1) = v1 c
          ∧ r.2.mem ((c.tc : Thread Cert.RopeIdeal.nD Cert.RopeIdeal.τ).loc Cert.RopeIdeal.main_v59_2) = v2 c
          ∧ r.2.mem ((c.tc : Thread Cert.RopeIdeal.nD Cert.RopeIdeal.τ).loc Cert.RopeIdeal.main_v59_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v95) = v0 c
          ∧ r.2.mem ((c.tc : Thread Cert.RopeReferenceIdeal.nD Cert.RopeReferenceIdeal.τ).loc Cert.RopeReferenceIdeal.main_v97) = v1 c
          ∧ r.2.mem ((c.tc : Thread Cert.RopeReferenceIdeal.nD Cert.RopeReferenceIdeal.τ).loc Cert.RopeReferenceIdeal.main_v99) = v2 c
          ∧ r.2.mem ((c.tc : Thread Cert.RopeReferenceIdeal.nD Cert.RopeReferenceIdeal.τ).loc Cert.RopeReferenceIdeal.main_v100) = v3 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3))

def preserves_Fourier_FourierIdeal : Prop :=
  True

def algebraic_FourierIdeal_FourierReferenceIdeal_pre_finite_channels [hFourierIdeal : Cert.FourierIdeal.Facts] [hFourierReferenceIdeal : Cert.FourierReferenceIdeal.Facts] [hPre_finite_channels : Cert.Pre_finite_channels.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierReferenceIdeal.nD Cert.FourierReferenceIdeal.τ Cert.FourierReferenceIdeal.sig) → Buf (Elt Ideal) ℓ) (g' : Dev Cert.FourierReferenceIdeal.nD → PrngReg), Pre_FourierIdeal_finite_channels m →
    (∀ c : Dev Cert.FourierIdeal.nD,
      m' ((c.tc : Thread Cert.FourierReferenceIdeal.nD Cert.FourierReferenceIdeal.τ).loc Cert.FourierReferenceIdeal.main_arg0) = m ((c.tc : Thread Cert.FourierIdeal.nD Cert.FourierIdeal.τ).loc Cert.FourierIdeal.main_arg0)
      ∧ m' ((c.tc : Thread Cert.FourierReferenceIdeal.nD Cert.FourierReferenceIdeal.τ).loc Cert.FourierReferenceIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v50)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v50) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierReferenceIdeal.defs (F := Ideal)) (onTc (τ := Cert.FourierReferenceIdeal.τ) (Cert.FourierReferenceIdeal.main (F := Ideal))) ⟨m', fun _ => 0, g'⟩ (fun r => ∀ c : Dev Cert.FourierReferenceIdeal.nD,
          r.2.mem ((c.tc : Thread Cert.FourierReferenceIdeal.nD Cert.FourierReferenceIdeal.τ).loc Cert.FourierReferenceIdeal.main_v44) = v0 c
          ∧ r.2.mem ((c.tc : Thread Cert.FourierReferenceIdeal.nD Cert.FourierReferenceIdeal.τ).loc Cert.FourierReferenceIdeal.main_arg0) = m' ((c.tc : Thread Cert.FourierReferenceIdeal.nD Cert.FourierReferenceIdeal.τ).loc Cert.FourierReferenceIdeal.main_arg0)
          ∧ r.2.mem ((c.tc : Thread Cert.FourierReferenceIdeal.nD Cert.FourierReferenceIdeal.τ).loc Cert.FourierReferenceIdeal.main_arg1) = m' ((c.tc : Thread Cert.FourierReferenceIdeal.nD Cert.FourierReferenceIdeal.τ).loc Cert.FourierReferenceIdeal.main_arg1))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hProj : Cert.Proj.Facts) (hProjIdeal : Cert.ProjIdeal.Facts) (hProjReferenceIdeal : Cert.ProjReferenceIdeal.Facts) (hRope : Cert.Rope.Facts) (hRopeIdeal : Cert.RopeIdeal.Facts) (hRopeReferenceIdeal : Cert.RopeReferenceIdeal.Facts) (hFourier : Cert.Fourier.Facts) (hFourierIdeal : Cert.FourierIdeal.Facts) (hFourierReferenceIdeal : Cert.FourierReferenceIdeal.Facts) (hPre_finite_scores : Cert.Pre_finite_scores.Facts) (hPre_finite_inputs : Cert.Pre_finite_inputs.Facts) (hPre_finite_channels : Cert.Pre_finite_channels.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeReferenceIdeal (hMergeReferenceIdeal := hMergeReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Rope (hRope := hRope)
    ∧ quiescent_RopeIdeal (hRopeIdeal := hRopeIdeal)
    ∧ quiescent_RopeIdeal_pre_finite_inputs (hRopeIdeal := hRopeIdeal) (hPre_finite_inputs := hPre_finite_inputs)
    ∧ quiescent_RopeReferenceIdeal (hRopeReferenceIdeal := hRopeReferenceIdeal)
    ∧ quiescent_RopeReferenceIdeal_pre_finite_inputs (hRopeReferenceIdeal := hRopeReferenceIdeal) (hPre_finite_inputs := hPre_finite_inputs)
    ∧ quiescent_Fourier (hFourier := hFourier)
    ∧ quiescent_FourierIdeal (hFourierIdeal := hFourierIdeal)
    ∧ quiescent_FourierIdeal_pre_finite_channels (hFourierIdeal := hFourierIdeal) (hPre_finite_channels := hPre_finite_channels)
    ∧ quiescent_FourierReferenceIdeal (hFourierReferenceIdeal := hFourierReferenceIdeal)
    ∧ quiescent_FourierReferenceIdeal_pre_finite_channels (hFourierReferenceIdeal := hFourierReferenceIdeal) (hPre_finite_channels := hPre_finite_channels)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeReferenceIdeal (hMergeIdeal := hMergeIdeal) (hMergeReferenceIdeal := hMergeReferenceIdeal)
    ∧ preserves_Proj_ProjIdeal
    ∧ algebraic_ProjIdeal_ProjReferenceIdeal (hProjIdeal := hProjIdeal) (hProjReferenceIdeal := hProjReferenceIdeal)
    ∧ preserves_Rope_RopeIdeal
    ∧ algebraic_RopeIdeal_RopeReferenceIdeal_pre_finite_inputs (hRopeIdeal := hRopeIdeal) (hRopeReferenceIdeal := hRopeReferenceIdeal) (hPre_finite_inputs := hPre_finite_inputs)
    ∧ preserves_Fourier_FourierIdeal
    ∧ algebraic_FourierIdeal_FourierReferenceIdeal_pre_finite_channels (hFourierIdeal := hFourierIdeal) (hFourierReferenceIdeal := hFourierReferenceIdeal) (hPre_finite_channels := hPre_finite_channels)
-- ==== Pre_finite_channels.lean ====
abbrev S8192x512 : Shape := ⟨2, ![8192, 512]⟩
abbrev S1x4x128x128 : Shape := ⟨4, ![1, 4, 128, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S1x4x128x128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Pre_finite_inputs.lean ====
abbrev S8x1024x1024 : Shape := ⟨3, ![8, 1024, 1024]⟩
abbrev S16x6144 : Shape := ⟨2, ![16, 6144]⟩
abbrev S1x1024 : Shape := ⟨2, ![1, 1024]⟩
abbrev S1x1024x2048 : Shape := ⟨3, ![1, 1024, 2048]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S16x6144 : S_.BroadcastsInDim S16x6144 (![] : Fin 0 → Fin S16x6144.rank)
  reducesTo_S16x6144_S_d0_1 : S16x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_v13 : IVec S_ 1) (main_v16 : IVec S1x1024x2048 1) : IVec S_ 1 :=
  let main_c_5 : IVec S_ 1 := constantI S_ 1 1#1
  let main_v17 : IVec S_ 1 := (fun x v => Host.reduce IntOp.andi x v reducesTo_S1x1024x2048_S_d0_1_2 h_S_) main_v16 main_c_5
  let main_v18 : IVec S_ 1 := andi main_v13 main_v17
  main_v18

def fn {F : FTy → Type} [FloatOps F] (main_arg0 : FVec F S8x1024x1024 .f32) (main_arg1 : FVec F S16x6144 .f32) (main_arg2 : FVec F S1x1024 .f32) (main_arg3 : FVec F S1x1024x2048 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S16x6144 .f32 := Host.absf main_arg1
  let main_cst_0 : FVec F S_ .f32 := constant S_ .f32 0x7F800000#32
  let main_v5 : FVec F S16x6144 .f32 := broadcastInDim S16x6144 ![] bcast_S_S16x6144 main_cst_0
  let main_v6 : IVec S16x6144 1 := cmpf .olt main_v4 main_v5
  let main_c_1 : IVec S_ 1 := constantI S_ 1 1#1
  let main_v7 : IVec S_ 1 := (fun x v => Host.reduce IntOp.andi x v reducesTo_S16x6144_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x2048 .f32 := Host.absf main_arg3
  let main_cst_4 : FVec F S_ .f32 := constant S_ .f32 0x7F800000#32
  let main_v15 : FVec F S1x1024x2048 .f32 := broadcastInDim S1x1024x2048 ![] bcast_S_S1x1024x2048 main_cst_4
  let main_v16 : IVec S1x1024x2048 1 := cmpf .olt main_v14 main_v15
  fn_part1 (F := F) main_v13 main_v16
-- ==== Pre_finite_scores.lean ====
abbrev S1x64 : Shape := ⟨2, ![1, 64]⟩
abbrev S1x128 : Shape := ⟨2, ![1, 128]⟩
abbrev S8x1024x4x2x64 : Shape := ⟨5, ![8, 1024, 4, 2, 64]⟩
abbrev S8x1024x4x128 : Shape := ⟨4, ![8, 1024, 4, 128]⟩
abbrev S8x1x256x4x128 : Shape := ⟨5, ![8, 1, 256, 4, 128]⟩
abbrev S_ : Shape := ⟨0, ![]⟩

class Facts : Prop where
  bcast_S_S8x1024x4x2x64 : S_.BroadcastsInDim S8x1024x4x2x64 (![] : Fin 0 → Fin S8x1024x4x2x64.rank)
  reducesTo_S8x1024x4x2x64_S_d0_1_2_3_4 : S8x1024x4x2x64.ReducesTo [0, 1, 2, 3, 4] S_
  h_S_ : 0 < S_.numel
  bcast_S_S8x1x256x4x128 : S_.BroadcastsInDim S8x1x256x4x128 (![] : Fin 0 → Fin S8x1x256x4x128.rank)
  reducesTo_S8x1x256x4x128_S_d0_1_2_3_4 : S8x1x256x4x128.ReducesTo [0, 1, 2, 3, 4] S_

variable [Facts]

def fn {F : FTy → Type} [FloatOps F] (main_arg0 : FVec F S1x64 .f32) (main_arg1 : FVec F S1x64 .f32) (main_arg2 : FVec F S1x64 .f32) (main_arg3 : FVec F S1x64 .f32) (main_arg4 : FVec F S1x128 .f32) (main_arg5 : FVec F S8x1024x4x2x64 .f32) (main_arg6 : FVec F S8x1024x4x2x64 .f32) (main_arg7 : FVec F S8x1024x4x128 .f32) (main_arg8 : FVec F S8x1x256x4x128 .f32) (main_arg9 : FVec F S8x1x256x4x128 .f32) : IVec S_ 1 :=
  let main_v0 : FVec F S8x1024x4x2x64 .f32 := Host.absf main_arg5
  let main_cst : FVec F S_ .f32 := constant S_ .f32 0x7F800000#32
  let main_v1 : FVec F S8x1024x4x2x64 .f32 := broadcastInDim S8x1024x4x2x64 ![] bcast_S_S8x1024x4x2x64 main_cst
  let main_v2 : IVec S8x1024x4x2x64 1 := cmpf .olt main_v0 main_v1
  let main_c : IVec S_ 1 := constantI S_ 1 1#1
  let main_v3 : IVec S_ 1 := (fun x v => Host.reduce IntOp.andi x v reducesTo_S8x1024x4x2x64_S_d0_1_2_3_4 h_S_) main_v2 main_c
  let main_v4 : FVec F S8x1024x4x2x64 .f32 := Host.absf main_arg6
  let main_cst_0 : FVec F S_ .f32 := constant S_ .f32 0x7F800000#32
  let main_v5 : FVec F S8x1024x4x2x64 .f32 := broadcastInDim S8x1024x4x2x64 ![] bcast_S_S8x1024x4x2x64 main_cst_0
  let main_v6 : IVec S8x1024x4x2x64 1 := cmpf .olt main_v4 main_v5
  let main_c_1 : IVec S_ 1 := constantI S_ 1 1#1
  let main_v7 : IVec S_ 1 := (fun x v => Host.reduce IntOp.andi x v reducesTo_S8x1024x4x2x64_S_d0_1_2_3_4 h_S_) main_v6 main_c_1
  let main_v8 : IVec S_ 1 := andi main_v3 main_v7
  let main_v9 : FVec F S8x1x256x4x128 .f32 := Host.absf main_arg8
  let main_cst_2 : FVec F S_ .f32 := constant S_ .f32 0x7F800000#32
  let main_v10 : FVec F S8x1x256x4x128 .f32 := broadcastInDim S8x1x256x4x128 ![] bcast_S_S8x1x256x4x128 main_cst_2
  let main_v11 : IVec S8x1x256x4x128 1 := cmpf .olt main_v9 main_v10
  let main_c_3 : IVec S_ 1 := constantI S_ 1 1#1
  let main_v12 : IVec S_ 1 := (fun x v => Host.reduce IntOp.andi x v reducesTo_S8x1x256x4x128_S_d0_1_2_3_4 h_S_) main_v11 main_c_3
  let main_v13 : IVec S_ 1 := andi main_v8 main_v12
  main_v13
-- ==== Kernel.lean ====
abbrev S1x64 : Shape := ⟨2, ![1, 64]⟩
abbrev S1x128 : Shape := ⟨2, ![1, 128]⟩
abbrev S8x1024x4x2x64 : Shape := ⟨5, ![8, 1024, 4, 2, 64]⟩
abbrev S8x1024x4x128 : Shape := ⟨4, ![8, 1024, 4, 128]⟩
abbrev S8x1x256x4x128 : Shape := ⟨5, ![8, 1, 256, 4, 128]⟩
abbrev S64 : Shape := ⟨1, ![64]⟩
abbrev S8x256x4x128 : Shape := ⟨4, ![8, 256, 4, 128]⟩
abbrev S2048x512 : Shape := ⟨2, ![2048, 512]⟩
abbrev S128 : Shape := ⟨1, ![128]⟩
abbrev S8192x512 : Shape := ⟨2, ![8192, 512]⟩
abbrev S256x128 : Shape := ⟨2, ![256, 128]⟩
abbrev S1024x128 : Shape := ⟨2, ![1024, 128]⟩
abbrev S1 : Shape := ⟨1, ![1]⟩
abbrev S1x1 : Shape := ⟨2, ![1, 1]⟩
abbrev S256x256 : Shape := ⟨2, ![256, 256]⟩
abbrev S256x1024 : Shape := ⟨2, ![256, 1024]⟩
abbrev S256 : Shape := ⟨1, ![256]⟩
abbrev S256x1 : Shape := ⟨2, ![256, 1]⟩

abbrev nBuf : Space → Nat
  | .hbm => 31
  | .vmem => 17
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x1024x4x2x64, .f32⟩
  | .hbm, ⟨6, _⟩ => ⟨S8x1024x4x2x64, .f32⟩
  | .hbm, ⟨7, _⟩ => ⟨S8x1024x4x128, .f32⟩
  | .hbm, ⟨8, _⟩ => ⟨S8x1x256x4x128, .f32⟩
  | .hbm, ⟨9, _⟩ => ⟨S8x1x256x4x128, .f32⟩
  | .hbm, ⟨10, _⟩ => ⟨S64, .f32⟩
  | .hbm, ⟨11, _⟩ => ⟨S1x64, .f32⟩
  | .hbm, ⟨12, _⟩ => ⟨S64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S8x256x4x128, .f32⟩
  | .hbm, ⟨19, _⟩ => ⟨S2048x512, .f32⟩
  | .hbm, ⟨20, _⟩ => ⟨S8x256x4x128, .f32⟩
  | .hbm, ⟨21, _⟩ => ⟨S2048x512, .f32⟩
  | .hbm, ⟨22, _⟩ => ⟨S128, .f32⟩
  | .hbm, ⟨23, _⟩ => ⟨S1x128, .f32⟩
  | .hbm, ⟨24, _⟩ => ⟨S8192x512, .f32⟩
  | .hbm, ⟨25, _⟩ => ⟨S8192x512, .bf16⟩
  | .hbm, ⟨26, _⟩ => ⟨S8192x512, .f32⟩
  | .hbm, ⟨27, _⟩ => ⟨S8192x512, .bf16⟩
  | .hbm, ⟨28, _⟩ => ⟨S8192x512, .f32⟩
  | .hbm, ⟨29, _⟩ => ⟨S8192x512, .bf16⟩
  | .hbm, ⟨30, _⟩ => ⟨S8192x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S256x128, .bf16⟩
  | .local _ .vmem, ⟨6, _⟩ => ⟨S256x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .bf16⟩
  | .local _ .vmem, ⟨16, _⟩ => ⟨S256x128, .bf16⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S1x64 : Shape := ⟨2, ![1, 64]⟩
abbrev S1x128 : Shape := ⟨2, ![1, 128]⟩
abbrev S8x1024x4x2x64 : Shape := ⟨5, ![8, 1024, 4, 2, 64]⟩
abbrev S8x1024x4x128 : Shape := ⟨4, ![8, 1024, 4, 128]⟩
abbrev S8x1x256x4x128 : Shape := ⟨5, ![8, 1, 256, 4, 128]⟩
abbrev S64 : Shape := ⟨1, ![64]⟩
abbrev S_ : Shape := ⟨0, ![]⟩
abbrev S8x256x4x128 : Shape := ⟨4, ![8, 256, 4, 128]⟩
abbrev S8x256x4x2x64 : Shape := ⟨5, ![8, 256, 4, 2, 64]⟩
abbrev S8x1280x4x2x64 : Shape := ⟨5, ![8, 1280, 4, 2, 64]⟩
abbrev S8x1280x4x128 : Shape := ⟨4, ![8, 1280, 4, 128]⟩
abbrev S2x8x4x1024x1280 : Shape := ⟨5, ![2, 8, 4, 1024, 1280]⟩
abbrev S2x8x4x1024 : Shape := ⟨4, ![2, 8, 4, 1024]⟩
abbrev S2x8x4x1024x1 : Shape := ⟨5, ![2, 8, 4, 1024, 1]⟩
abbrev S1x8x4x1024x1280 : Shape := ⟨5, ![1, 8, 4, 1024, 1280]⟩
abbrev S8x4x1024x1280 : Shape := ⟨4, ![8, 4, 1024, 1280]⟩
abbrev S8x4x128x1024 : Shape := ⟨4, ![8, 4, 128, 1024]⟩
abbrev S128 : Shape := ⟨1, ![128]⟩
abbrev S8x1024x4 : Shape := ⟨3, ![8, 1024, 4]⟩
abbrev S8x1024x4x1 : Shape := ⟨4, ![8, 1024, 4, 1]⟩
abbrev S1x1x1x128 : Shape := ⟨4, ![1, 1, 1, 128]⟩
abbrev S8192x512 : Shape := ⟨2, ![8192, 512]⟩

abbrev nBuf : Space → Nat
  | .hbm => 79
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x128, .f32⟩
  | .hbm, ⟨5, _⟩ => ⟨S8x1024x4x2x64, .f32⟩
  | .hbm, ⟨6, _⟩ => ⟨S8x1024x4x2x64, .f32⟩
  | .hbm, ⟨7, _⟩ => ⟨S8x1024x4x128, .f32⟩
  | .hbm, ⟨8, _⟩ => ⟨S8x1x256x4x128, .f32⟩
  | .hbm, ⟨9, _⟩ => ⟨S8x1x256x4x128, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x256x4x128, .f32⟩
  | .hbm, ⟨26, _⟩ => ⟨S8x256x4x2x64, .f32⟩
  | .hbm, ⟨27, _⟩ => ⟨S8x1280x4x2x64, .f32⟩
  | .hbm, ⟨28, _⟩ => ⟨S8x256x4x128, .f32⟩
  | .hbm, ⟨29, _⟩ => ⟨S8x1280x4x128, .f32⟩
  | .hbm, ⟨30, _⟩ => ⟨S2x8x4x1024x1280, .f32⟩
  | .hbm, ⟨31, _⟩ => ⟨S_, .f32⟩
  | .hbm, ⟨32, _⟩ => ⟨S2x8x4x1024x1280, .f32⟩
  | .hbm, ⟨33, _⟩ => ⟨S2x8x4x1024x1280, .f32⟩
  | .hbm, ⟨34, _⟩ => ⟨S_, .f32⟩
  | .hbm, ⟨35, _⟩ => ⟨S2x8x4x1024, .f32⟩
  | .hbm, ⟨36, _⟩ => ⟨S_, .f32⟩
  | .hbm, ⟨37, _⟩ => ⟨S2x8x4x1024, .f32⟩
  | .hbm, ⟨38, _⟩ => ⟨S2x8x4x1024, .f32⟩
  | .hbm, ⟨39, _⟩ => ⟨S2x8x4x1024x1, .f32⟩
  | .hbm, ⟨40, _⟩ => ⟨S2x8x4x1024x1280, .f32⟩
  | .hbm, ⟨41, _⟩ => ⟨S2x8x4x1024x1280, .f32⟩
  | .hbm, ⟨42, _⟩ => ⟨S2x8x4x1024x1280, .f32⟩
  | .hbm, ⟨43, _⟩ => ⟨S_, .f32⟩
  | .hbm, ⟨44, _⟩ => ⟨S2x8x4x1024, .f32⟩
  | .hbm, ⟨45, _⟩ => ⟨S2x8x4x1024x1, .f32⟩
  | .hbm, ⟨46, _⟩ => ⟨S2x8x4x1024x1280, .f32⟩
  | .hbm, ⟨47, _⟩ => ⟨S2x8x4x1024x1280, .f32⟩
  | .hbm, ⟨48, _⟩ => ⟨S1x8x4x1024x1280, .f32⟩
  | .hbm, ⟨49, _⟩ => ⟨S8x4x1024x1280, .f32⟩
  | .hbm, ⟨50, _⟩ => ⟨S1x8x4x1024x1280, .f32⟩
  | .hbm, ⟨51, _⟩ => ⟨S8x4x1024x1280, .f32⟩
  | .hbm, ⟨52, _⟩ => ⟨S8x4x1024x1280, .f32⟩
  | .hbm, ⟨53, _⟩ => ⟨S8x4x1024x1280, .f32⟩
  | .hbm, ⟨54, _⟩ => ⟨S8x4x1024x1280, .f32⟩
  | .hbm, ⟨55, _⟩ => ⟨S8x4x128x1024, .f32⟩
  | .hbm, ⟨56, _⟩ => ⟨S8x1024x4x128, .f32⟩
  | .hbm, ⟨57, _⟩ => ⟨S128, .f32⟩
  | .hbm, ⟨58, _⟩ => ⟨S8x1024x4x128, .f32⟩
  | .hbm, ⟨59, _⟩ => ⟨S_, .f32⟩
  | .hbm, ⟨60, _⟩ => ⟨S8x1024x4, .f32⟩
  | .hbm, ⟨61, _⟩ => ⟨S8x1024x4x1, .f32⟩
  | .hbm, ⟨62, _⟩ => ⟨S_, .f32⟩
  | .hbm, ⟨63, _⟩ => ⟨S8x1024x4x1, .f32⟩
  | .hbm, ⟨64, _⟩ => ⟨S8x1024x4x1, .f32⟩
  | .hbm, ⟨65, _⟩ => ⟨S_, .f32⟩
  | .hbm, ⟨66, _⟩ => ⟨S8x1024x4x1, .f32⟩
  | .hbm, ⟨67, _⟩ => ⟨S8x1024x4x1, .f32⟩
  | .hbm, ⟨68, _⟩ => ⟨S8x1024x4x1, .f32⟩
  | .hbm, ⟨69, _⟩ => ⟨S8x1024x4x128, .f32⟩
  | .hbm, ⟨70, _⟩ => ⟨S8x1024x4x128, .f32⟩
  | .hbm, ⟨71, _⟩ => ⟨S1x1x1x128, .f32⟩
  | .hbm, ⟨72, _⟩ => ⟨S8x1024x4x128, .f32⟩
  | .hbm, ⟨73, _⟩ => ⟨S8x1024x4x128, .f32⟩
  | .hbm, ⟨74, _⟩ => ⟨S_, .f32⟩
  | .hbm, ⟨75, _⟩ => ⟨S8x1024x4x128, .f32⟩
  | .hbm, ⟨76, _⟩ => ⟨S8x1024x4x128, .f32⟩
  | .hbm, ⟨77, _⟩ => ⟨S8192x512, .f32⟩
  | .hbm, ⟨78, _⟩ => ⟨S8192x512, .bf16⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== Merge.lean ====
abbrev S8192x512 : Shape := ⟨2, ![8192, 512]⟩
abbrev S8x1024x1024 : Shape := ⟨3, ![8, 1024, 1024]⟩
abbrev S16x6144 : Shape := ⟨2, ![16, 6144]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S16x6x1024 : Shape := ⟨3, ![16, 6, 1024]⟩
abbrev S1024x2048 : Shape := ⟨2, ![1024, 2048]⟩
abbrev S1024x8x2x128 : Shape := ⟨4, ![1024, 8, 2, 128]⟩
abbrev S1024x2x8x128 : Shape := ⟨4, ![1024, 2, 8, 128]⟩
abbrev S8x2x128x128 : Shape := ⟨4, ![8, 2, 128, 128]⟩
abbrev S8x8 : Shape := ⟨2, ![8, 8]⟩
abbrev S_ : Shape := ⟨0, ![]⟩
abbrev S2x128x8x128 : Shape := ⟨4, ![2, 128, 8, 128]⟩
abbrev S2x128x8x1x128 : Shape := ⟨5, ![2, 128, 8, 1, 128]⟩
abbrev S8x8x1 : Shape := ⟨3, ![8, 8, 1]⟩
abbrev S1x1x8x8x1 : Shape := ⟨5, ![1, 1, 8, 8, 1]⟩
abbrev S2x128x8x8x128 : Shape := ⟨5, ![2, 128, 8, 8, 128]⟩
abbrev S2x1024x1024 : Shape := ⟨3, ![2, 1024, 1024]⟩
abbrev S8x1x128x128 : Shape := ⟨4, ![8, 1, 128, 128]⟩
abbrev S8x128x128 : Shape := ⟨3, ![8, 128, 128]⟩
abbrev S8x128x1x128 : Shape := ⟨4, ![8, 128, 1, 128]⟩
abbrev S8x1x8x1 : Shape := ⟨4, ![8, 1, 8, 1]⟩
abbrev S8x128x8x128 : Shape := ⟨4, ![8, 128, 8, 128]⟩
abbrev S1024x1024 : Shape := ⟨2, ![1024, 1024]⟩
abbrev S8192x1024 : Shape := ⟨2, ![8192, 1024]⟩
abbrev S1024 : Shape := ⟨1, ![1024]⟩
abbrev S1024x8192 : Shape := ⟨2, ![1024, 8192]⟩
abbrev S2x1024x8192 : Shape := ⟨3, ![2, 1024, 8192]⟩
abbrev S256x512 : Shape := ⟨2, ![256, 512]⟩
abbrev S256x1024 : Shape := ⟨2, ![256, 1024]⟩
abbrev S1x6x1024 : Shape := ⟨3, ![1, 6, 1024]⟩
abbrev S1024x256 : Shape := ⟨2, ![1024, 256]⟩
abbrev S2x1024x256 : Shape := ⟨3, ![2, 1024, 256]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩
abbrev S256x2048 : Shape := ⟨2, ![256, 2048]⟩
abbrev S1x1024x256 : Shape := ⟨3, ![1, 1024, 256]⟩

abbrev nBuf : Space → Nat
  | .hbm => 49
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8x1024x1024, .f32⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x2048, .f32⟩
  | .hbm, ⟨7, _⟩ => ⟨S1x8x2x128x128, .f32⟩
  | .hbm, ⟨8, _⟩ => ⟨S16x6x1024, .f32⟩
  | .hbm, ⟨9, _⟩ => ⟨S1024x2048, .f32⟩
  | .hbm, ⟨10, _⟩ => ⟨S1024x8x2x128, .f32⟩
  | .hbm, ⟨11, _⟩ => ⟨S1024x2x8x128, .f32⟩
  | .hbm, ⟨12, _⟩ => ⟨S1024x2048, .f32⟩
  | .hbm, ⟨13, _⟩ => ⟨S8x2x128x128, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S2x128x8x128, .f32⟩
  | .hbm, ⟨22, _⟩ => ⟨S2x128x8x1x128, .f32⟩
  | .hbm, ⟨23, _⟩ => ⟨S8x8x1, .f32⟩
  | .hbm, ⟨24, _⟩ => ⟨S1x1x8x8x1, .f32⟩
  | .hbm, ⟨25, _⟩ => ⟨S2x128x8x8x128, .f32⟩
  | .hbm, ⟨26, _⟩ => ⟨S2x128x8x8x128, .f32⟩
  | .hbm, ⟨27, _⟩ => ⟨S2x128x8x8x128, .f32⟩
  | .hbm, ⟨28, _⟩ => ⟨S2x1024x1024, .f32⟩
  | .hbm, ⟨29, _⟩ => ⟨S8x1x128x128, .f32⟩
  | .hbm, ⟨30, _⟩ => ⟨S8x128x128, .f32⟩
  | .hbm, ⟨31, _⟩ => ⟨S8x128x1x128, .f32⟩
  | .hbm, ⟨32, _⟩ => ⟨S8x1x8x1, .f32⟩
  | .hbm, ⟨33, _⟩ => ⟨S8x128x8x128, .f32⟩
  | .hbm, ⟨34, _⟩ => ⟨S8x128x8x128, .f32⟩
  | .hbm, ⟨35, _⟩ => ⟨S8x128x8x128, .f32⟩
  | .hbm, ⟨36, _⟩ => ⟨S1024x1024, .f32⟩
  | .hbm, ⟨37, _⟩ => ⟨S8192x1024, .f32⟩
  | .hbm, ⟨38, _⟩ => ⟨S1024, .f32⟩
  | .hbm, ⟨39, _⟩ => ⟨S1x1024, .f32⟩
  | .hbm, ⟨40, _⟩ => ⟨S1024x1024, .f32⟩
  | .hbm, ⟨41, _⟩ => ⟨S1024x1024, .bf16⟩
  | .hbm, ⟨42, _⟩ => ⟨S1024x2048, .bf16⟩
  | .hbm, ⟨43, _⟩ => ⟨S2x1024x1024, .bf16⟩
  | .hbm, ⟨44, _⟩ => ⟨S1024x1024, .bf16⟩
  | .hbm, ⟨45, _⟩ => ⟨S8192x1024, .f32⟩
  | .hbm, ⟨46, _⟩ => ⟨S1024x8192, .bf16⟩
  | .hbm, ⟨47, _⟩ => ⟨S2x1024x8192, .f32⟩
  | .hbm, ⟨48, _⟩ => ⟨S1024x8192, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x1024, .bf16⟩
  | .local _ .vmem, ⟨10, _⟩ => ⟨S1024x2048, .bf16⟩
  | .local _ .vmem, ⟨11, _⟩ => ⟨S2x1024x1024, .bf16⟩
  | .local _ .vmem, ⟨12, _⟩ => ⟨S1024x1024, .bf16⟩
  | .local _ .vmem, ⟨13, _⟩ => ⟨S256x1024, .f32⟩
  | .local _ .vmem, ⟨14, _⟩ => ⟨S256x1024, .f32⟩
  | .local _ .vmem, ⟨15, _⟩ => ⟨S1024x256, .bf16⟩
  | .local _ .vmem, ⟨16, _⟩ => ⟨S1024x256, .bf16⟩
  | .local _ .vmem, ⟨17, _⟩ => ⟨S2x1024x256, .f32⟩
  | .local _ .vmem, ⟨18, _⟩ => ⟨S2x1024x256, .f32⟩
  | .local _ .vmem, ⟨19, _⟩ => ⟨S1024x256, .f32⟩
  | .local _ .vmem, ⟨20, _⟩ => ⟨S1024x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev main_v36_2 : Ref sig .tc := ⟨.hbm, 47, rfl⟩
abbrev main_v36_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S8192x512 : Shape := ⟨2, ![8192, 512]⟩
abbrev S8x1024x1024 : Shape := ⟨3, ![8, 1024, 1024]⟩
abbrev S16x6144 : Shape := ⟨2, ![16, 6144]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x8x2x128x128 : Shape := ⟨5, ![1, 8, 2, 128, 128]⟩
abbrev S8x6144 : Shape := ⟨2, ![8, 6144]⟩
abbrev S8x1x6144 : Shape := ⟨3, ![8, 1, 6144]⟩
abbrev S8x1x1024 : Shape := ⟨3, ![8, 1, 1024]⟩
abbrev S8x1024x512 : Shape := ⟨3, ![8, 1024, 512]⟩
abbrev S1024x1024 : Shape := ⟨2, ![1024, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8192x1024 : Shape := ⟨2, ![8192, 1024]⟩
abbrev S1024x2048 : Shape := ⟨2, ![1024, 2048]⟩
abbrev S8192x2048 : Shape := ⟨2, ![8192, 2048]⟩
abbrev S8192x8x2x128 : Shape := ⟨4, ![8192, 8, 2, 128]⟩
abbrev S8x2x128x128 : Shape := ⟨4, ![8, 2, 128, 128]⟩
abbrev S8x2x128x8192 : Shape := ⟨4, ![8, 2, 128, 8192]⟩
abbrev S1024x8192 : Shape := ⟨2, ![1024, 8192]⟩
abbrev S2x128x8x8192 : Shape := ⟨4, ![2, 128, 8, 8192]⟩
abbrev S2x1024x8192 : Shape := ⟨3, ![2, 1024, 8192]⟩
abbrev S8192x8x1x128 : Shape := ⟨4, ![8192, 8, 1, 128]⟩
abbrev S8192x8x128 : Shape := ⟨3, ![8192, 8, 128]⟩
abbrev S8x128x8192 : Shape := ⟨3, ![8, 128, 8192]⟩

abbrev nBuf : Space → Nat
  | .hbm => 65
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8x1024x1024, .f32⟩
  | .hbm, ⟨3, _⟩ => ⟨S16x6144, .f32⟩
  | .hbm, ⟨4, _⟩ => ⟨S1x1024, .f32⟩
  | .hbm, ⟨5, _⟩ => ⟨S1x1024x1024, .f32⟩
  | .hbm, ⟨6, _⟩ => ⟨S1x1024x2048, .f32⟩
  | .hbm, ⟨7, _⟩ => ⟨S1x8x2x128x128, .f32⟩
  | .hbm, ⟨8, _⟩ => ⟨S8x6144, .f32⟩
  | .hbm, ⟨9, _⟩ => ⟨S8x1x6144, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1024x512, .bf16⟩
  | .hbm, ⟨17, _⟩ => ⟨S8x1024x512, .bf16⟩
  | .hbm, ⟨18, _⟩ => ⟨S8x1024x1024, .bf16⟩
  | .hbm, ⟨19, _⟩ => ⟨S8x1024x1024, .f32⟩
  | .hbm, ⟨20, _⟩ => ⟨S1024x1024, .f32⟩
  | .hbm, ⟨21, _⟩ => ⟨S8x1024x1024, .f32⟩
  | .hbm, ⟨22, _⟩ => ⟨S8x1024x1024, .f32⟩
  | .hbm, ⟨23, _⟩ => ⟨S8x1024x1024, .f32⟩
  | .hbm, ⟨24, _⟩ => ⟨S8x1024x1024, .f32⟩
  | .hbm, ⟨25, _⟩ => ⟨S1024, .f32⟩
  | .hbm, ⟨26, _⟩ => ⟨S8x1024x1024, .f32⟩
  | .hbm, ⟨27, _⟩ => ⟨S_, .f32⟩
  | .hbm, ⟨28, _⟩ => ⟨S8x1024, .f32⟩
  | .hbm, ⟨29, _⟩ => ⟨S8x1024x1, .f32⟩
  | .hbm, ⟨30, _⟩ => ⟨S_, .f32⟩
  | .hbm, ⟨31, _⟩ => ⟨S8x1024x1, .f32⟩
  | .hbm, ⟨32, _⟩ => ⟨S8x1024x1, .f32⟩
  | .hbm, ⟨33, _⟩ => ⟨S_, .f32⟩
  | .hbm, ⟨34, _⟩ => ⟨S8x1024x1, .f32⟩
  | .hbm, ⟨35, _⟩ => ⟨S8x1024x1, .f32⟩
  | .hbm, ⟨36, _⟩ => ⟨S8x1024x1, .f32⟩
  | .hbm, ⟨37, _⟩ => ⟨S8x1024x1024, .f32⟩
  | .hbm, ⟨38, _⟩ => ⟨S8x1024x1024, .f32⟩
  | .hbm, ⟨39, _⟩ => ⟨S1x1x1024, .f32⟩
  | .hbm, ⟨40, _⟩ => ⟨S8x1024x1024, .f32⟩
  | .hbm, ⟨41, _⟩ => ⟨S8x1024x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x1024x1024, .f32⟩
  | .hbm, ⟨46, _⟩ => ⟨S8x1024x1024, .f32⟩
  | .hbm, ⟨47, _⟩ => ⟨S8x1024x1024, .f32⟩
  | .hbm, ⟨48, _⟩ => ⟨S8x1024x1024, .f32⟩
  | .hbm, ⟨49, _⟩ => ⟨S8192x1024, .f32⟩
  | .hbm, ⟨50, _⟩ => ⟨S1024x2048, .f32⟩
  | .hbm, ⟨51, _⟩ => ⟨S8192x2048, .f32⟩
  | .hbm, ⟨52, _⟩ => ⟨S8192x8x2x128, .f32⟩
  | .hbm, ⟨53, _⟩ => ⟨S8x2x128x128, .f32⟩
  | .hbm, ⟨54, _⟩ => ⟨S8x2x128x8192, .f32⟩
  | .hbm, ⟨55, _⟩ => ⟨S8192x8x2x128, .f32⟩
  | .hbm, ⟨56, _⟩ => ⟨S8192x1024, .f32⟩
  | .hbm, ⟨57, _⟩ => ⟨S1024x8192, .f32⟩
  | .hbm, ⟨58, _⟩ => ⟨S1024x8192, .bf16⟩
  | .hbm, ⟨59, _⟩ => ⟨S2x128x8x8192, .f32⟩
  | .hbm, ⟨60, _⟩ => ⟨S2x1024x8192, .f32⟩
  | .hbm, ⟨61, _⟩ => ⟨S8192x8x1x128, .f32⟩
  | .hbm, ⟨62, _⟩ => ⟨S8192x8x128, .f32⟩
  | .hbm, ⟨63, _⟩ => ⟨S8x128x8192, .f32⟩
  | .hbm, ⟨64, _⟩ => ⟨S1024x8192, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Proj.lean ====
abbrev S32x256x1024 : Shape := ⟨3, ![32, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2048 : Shape := ⟨3, ![1, 1024, 2048]⟩
abbrev S_ : Shape := ⟨0, ![]⟩
abbrev S7x1024 : Shape := ⟨2, ![7, 1024]⟩
abbrev S16x1024 : Shape := ⟨2, ![16, 1024]⟩
abbrev S1024x6144 : Shape := ⟨2, ![1024, 6144]⟩
abbrev S6144 : Shape := ⟨1, ![6144]⟩
abbrev S16x6144 : Shape := ⟨2, ![16, 6144]⟩
abbrev S1024x1536 : Shape := ⟨2, ![1024, 1536]⟩
abbrev S1x1536 : Shape := ⟨2, ![1, 1536]⟩
abbrev S16x1536 : Shape := ⟨2, ![16, 1536]⟩
abbrev S16x6x1024 : Shape := ⟨3, ![16, 6, 1024]⟩
abbrev S8192x1024 : Shape := ⟨2, ![8192, 1024]⟩
abbrev S1024x2048 : Shape := ⟨2, ![1024, 2048]⟩
abbrev S8192x512 : Shape := ⟨2, ![8192, 512]⟩
abbrev S256x1024 : Shape := ⟨2, ![256, 1024]⟩
abbrev S1x6x1024 : Shape := ⟨3, ![1, 6, 1024]⟩
abbrev S256x512 : Shape := ⟨2, ![256, 512]⟩
abbrev S256 : Shape := ⟨1, ![256]⟩
abbrev S256x1 : Shape := ⟨2, ![256, 1]⟩
abbrev S1x1x1024 : Shape := ⟨3, ![1, 1, 1024]⟩
abbrev S256x2048 : Shape := ⟨2, ![256, 2048]⟩

abbrev nBuf : Space → Nat
  | .hbm => 27
  | .vmem => 24
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S16x1024, .f32⟩
  | .hbm, ⟨11, _⟩ => ⟨S1024x6144, .f32⟩
  | .hbm, ⟨12, _⟩ => ⟨S6144, .f32⟩
  | .hbm, ⟨13, _⟩ => ⟨S1x6144, .f32⟩
  | .hbm, ⟨14, _⟩ => ⟨S16x6144, .f32⟩
  | .hbm, ⟨15, _⟩ => ⟨S16x6x1024, .f32⟩
  | .hbm, ⟨16, _⟩ => ⟨S8192x1024, .f32⟩
  | .hbm, ⟨17, _⟩ => ⟨S1024, .f32⟩
  | .hbm, ⟨18, _⟩ => ⟨S1x1024, .f32⟩
  | .hbm, ⟨19, _⟩ => ⟨S1024x2048, .f32⟩
  | .hbm, ⟨20, _⟩ => ⟨S1024x2048, .bf16⟩
  | .hbm, ⟨21, _⟩ => ⟨S8192x512, .bf16⟩
  | .hbm, ⟨22, _⟩ => ⟨S8192x512, .bf16⟩
  | .hbm, ⟨23, _⟩ => ⟨S8192x512, .bf16⟩
  | .hbm, ⟨24, _⟩ => ⟨S8192x512, .f32⟩
  | .hbm, ⟨25, _⟩ => ⟨S8192x512, .f32⟩
  | .hbm, ⟨26, _⟩ => ⟨S8192x512, .f32⟩
  | .local _ .vmem, ⟨0, _⟩ => ⟨S16x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S16x1536, .f32⟩
  | .local _ .vmem, ⟨6, _⟩ => ⟨S16x1536, .f32⟩
  | .local _ .vmem, ⟨7, _⟩ => ⟨S256x1024, .f32⟩
  | .local _ .vmem, ⟨8, _⟩ => ⟨S256x1024, .f32⟩
  | .local _ .vmem, ⟨9, _⟩ => ⟨S1x6x1024, .f32⟩
  | .local _ .vmem, ⟨10, _⟩ => ⟨S1x1024, .f32⟩
  | .local _ .vmem, ⟨11, _⟩ => ⟨S1024x2048, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x6x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ProjReferenceIdeal.lean ====
abbrev S32x256x1024 : Shape := ⟨3, ![32, 256, 1024]⟩
abbrev S8x1024 : Shape := ⟨2, ![8, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2048 : Shape := ⟨3, ![1, 1024, 2048]⟩
abbrev S1024x6144 : Shape := ⟨2, ![1024, 6144]⟩
abbrev S6144 : Shape := ⟨1, ![6144]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S1024x2048 : Shape := ⟨2, ![1024, 2048]⟩
abbrev S32x256x2048 : Shape := ⟨3, ![32, 256, 2048]⟩
abbrev S8192x2048 : Shape := ⟨2, ![8192, 2048]⟩
abbrev S8192x512 : Shape := ⟨2, ![8192, 512]⟩

abbrev nBuf : Space → Nat
  | .hbm => 63
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S1024x6144, .f32⟩
  | .hbm, ⟨8, _⟩ => ⟨S6144, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S6144, .f32⟩
  | .hbm, ⟨19, _⟩ => ⟨S6144, .f32⟩
  | .hbm, ⟨20, _⟩ => ⟨S1x6144, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S32x256x1024, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S32x256x1, .f32⟩
  | .hbm, ⟨39, _⟩ => ⟨S32x256x1024, .f32⟩
  | .hbm, ⟨40, _⟩ => ⟨S32x256x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S1x1x1024, .f32⟩
  | .hbm, ⟨51, _⟩ => ⟨S32x256x1024, .f32⟩
  | .hbm, ⟨52, _⟩ => ⟨S32x256x1024, .f32⟩
  | .hbm, ⟨53, _⟩ => ⟨S1024x2048, .f32⟩
  | .hbm, ⟨54, _⟩ => ⟨S32x256x2048, .f32⟩
  | .hbm, ⟨55, _⟩ => ⟨S8192x2048, .f32⟩
  | .hbm, ⟨56, _⟩ => ⟨S8192x512, .f32⟩
  | .hbm, ⟨57, _⟩ => ⟨S8192x512, .f32⟩
  | .hbm, ⟨58, _⟩ => ⟨S8192x512, .f32⟩
  | .hbm, ⟨59, _⟩ => ⟨S8192x512, .f32⟩
  | .hbm, ⟨60, _⟩ => ⟨S8192x512, .bf16⟩
  | .hbm, ⟨61, _⟩ => ⟨S8192x512, .bf16⟩
  | .hbm, ⟨62, _⟩ => ⟨S8192x512, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Rope.lean ====
abbrev S8x1024x1024 : Shape := ⟨3, ![8, 1024, 1024]⟩
abbrev S16x6144 : Shape := ⟨2, ![16, 6144]⟩
abbrev S1x1024 : Shape := ⟨2, ![1, 1024]⟩
abbrev S1x1024x2048 : Shape := ⟨3, ![1, 1024, 2048]⟩
abbrev S16x6x1024 : Shape := ⟨3, ![16, 6, 1024]⟩
abbrev S1024x2048 : Shape := ⟨2, ![1024, 2048]⟩
abbrev S1024x1024 : Shape := ⟨2, ![1024, 1024]⟩
abbrev S1024x16x4x16 : Shape := ⟨4, ![1024, 16, 4, 16]⟩
abbrev S1024x16x1x16 : Shape := ⟨4, ![1024, 16, 1, 16]⟩
abbrev S1024x16x16 : Shape := ⟨3, ![1024, 16, 16]⟩
abbrev S1024x3072 : Shape := ⟨2, ![1024, 3072]⟩
abbrev S8192x1024 : Shape := ⟨2, ![8192, 1024]⟩
abbrev S1024 : Shape := ⟨1, ![1024]⟩
abbrev S16 : Shape := ⟨1, ![16]⟩
abbrev S16x64 : Shape := ⟨2, ![16, 64]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1x1024x1x64 : Shape := ⟨4, ![1, 1024, 1, 64]⟩
abbrev S1x1024x8x64 : Shape := ⟨4, ![1, 1024, 8, 64]⟩
abbrev S1024x512 : Shape := ⟨2, ![1024, 512]⟩
abbrev S8192x512 : Shape := ⟨2, ![8192, 512]⟩
abbrev S256x1024 : Shape := ⟨2, ![256, 1024]⟩
abbrev S1x6x1024 : Shape := ⟨3, ![1, 6, 1024]⟩
abbrev S256x512 : Shape := ⟨2, ![256, 512]⟩
abbrev S256 : Shape := ⟨1, ![256]⟩
abbrev S256x1 : Shape := ⟨2, ![256, 1]⟩
abbrev S1x1x1024 : Shape := ⟨3, ![1, 1, 1024]⟩
abbrev S256x3072 : Shape := ⟨2, ![256, 3072]⟩

abbrev nBuf : Space → Nat
  | .hbm => 69
  | .vmem => 18
  | .smem => 0
  | _ => 0

abbrev bufTy : (tb : Table) → Fin (tcTables nBuf tb) → BufTy
  | .hbm, ⟨0, _⟩ => ⟨S8x1024x1024, .f32⟩
  | .hbm, ⟨1, _⟩ => ⟨S16x6144, .f32⟩
  | .hbm, ⟨2, _⟩ => ⟨S1x1024, .f32⟩
  | .hbm, ⟨3, _⟩ => ⟨S1x1024x2048, .f32⟩
  | .hbm, ⟨4, _⟩ => ⟨S16x6x1024, .f32⟩
  | .hbm, ⟨5, _⟩ => ⟨S1024x2048, .f32⟩
  | .hbm, ⟨6, _⟩ => ⟨S1024x1024, .f32⟩
  | .hbm, ⟨7, _⟩ => ⟨S1024x16x4x16, .f32⟩
  | .hbm, ⟨8, _⟩ => ⟨S1024x16x1x16, .f32⟩
  | .hbm, ⟨9, _⟩ => ⟨S1024x16x16, .f32⟩
  | .hbm, ⟨10, _⟩ => ⟨S1024x16x16, .f32⟩
  | .hbm, ⟨11, _⟩ => ⟨S1024x16x1x16, .f32⟩
  | .hbm, ⟨12, _⟩ => ⟨S1024x16x16, .f32⟩
  | .hbm, ⟨13, _⟩ => ⟨S1024x16x1x16, .f32⟩
  | .hbm, ⟨14, _⟩ => ⟨S1024x16x16, .f32⟩
  | .hbm, ⟨15, _⟩ => ⟨S1024x16x16, .f32⟩
  | .hbm, ⟨16, _⟩ => ⟨S1024x16x1x16, .f32⟩
  | .hbm, ⟨17, _⟩ => ⟨S1024x16x16, .f32⟩
  | .hbm, ⟨18, _⟩ => ⟨S1024x16x1x16, .f32⟩
  | .hbm, ⟨19, _⟩ => ⟨S1024x16x1x16, .f32⟩
  | .hbm, ⟨20, _⟩ => ⟨S1024x16x1x16, .f32⟩
  | .hbm, ⟨21, _⟩ => ⟨S1024x16x1x16, .f32⟩
  | .hbm, ⟨22, _⟩ => ⟨S1024x16x4x16, .f32⟩
  | .hbm, ⟨23, _⟩ => ⟨S1024x1024, .f32⟩
  | .hbm, ⟨24, _⟩ => ⟨S1024x3072, .f32⟩
  | .hbm, ⟨25, _⟩ => ⟨S8192x1024, .f32⟩
  | .hbm, ⟨26, _⟩ => ⟨S1024, .f32⟩
  | .hbm, ⟨27, _⟩ => ⟨S1x1024, .f32⟩
  | .hbm, ⟨28, _⟩ => ⟨S1024x3072, .bf16⟩
  | .hbm, ⟨29, _⟩ => ⟨S16, .i32⟩
  | .hbm, ⟨30, _⟩ => ⟨S16x64, .i32⟩
  | .hbm, ⟨31, _⟩ => ⟨S1024, .i32⟩
  | .hbm, ⟨32, _⟩ => ⟨S1024, .f32⟩
  | .hbm, ⟨33, _⟩ => ⟨S64, .i32⟩
  | .hbm, ⟨34, _⟩ => ⟨S1x64, .i32⟩
  | .hbm, ⟨35, _⟩ => ⟨S16x64, .i32⟩
  | .hbm, ⟨36, _⟩ => ⟨S1024, .i32⟩
  | .hbm, ⟨37, _⟩ => ⟨S1024, .f32⟩
  | .hbm, ⟨38, _⟩ => ⟨S16, .f32⟩
  | .hbm, ⟨39, _⟩ => ⟨S16, .f32⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S1024x1, .f32⟩
  | .hbm, ⟨47, _⟩ => ⟨S1x16, .f32⟩
  | .hbm, ⟨48, _⟩ => ⟨S1024x16, .f32⟩
  | .hbm, ⟨49, _⟩ => ⟨S1024x16, .f32⟩
  | .hbm, ⟨50, _⟩ => ⟨S1024x16, .f32⟩
  | .hbm, ⟨51, _⟩ => ⟨S1024x1, .f32⟩
  | .hbm, ⟨52, _⟩ => ⟨S1x16, .f32⟩
  | .hbm, ⟨53, _⟩ => ⟨S1024x16, .f32⟩
  | .hbm, ⟨54, _⟩ => ⟨S1024x16, .f32⟩
  | .hbm, ⟨55, _⟩ => ⟨S1024x16, .f32⟩
  | .hbm, ⟨56, _⟩ => ⟨S1024x64, .f32⟩
  | .hbm, ⟨57, _⟩ => ⟨S1024x64, .f32⟩
  | .hbm, ⟨58, _⟩ => ⟨S1x1024x1x64, .f32⟩
  | .hbm, ⟨59, _⟩ => ⟨S1x1024x8x64, .f32⟩
  | .hbm, ⟨60, _⟩ => ⟨S1024x512, .f32⟩
  | .hbm, ⟨61, _⟩ => ⟨S1024x64, .f32⟩
  | .hbm, ⟨62, _⟩ => ⟨S1x1024x1x64, .f32⟩
  | .hbm, ⟨63, _⟩ => ⟨S1x1024x8x64, .f32⟩
  | .hbm, ⟨64, _⟩ => ⟨S1024x512, .f32⟩
  | .hbm, ⟨65, _⟩ => ⟨S8192x512, .bf16⟩
  | .hbm, ⟨66, _⟩ => ⟨S8192x512, .bf16⟩
  | .hbm, ⟨67, _⟩ => ⟨S8192x512, .bf16⟩
  | .hbm, ⟨68, _⟩ => ⟨S8192x512, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3072, .bf16⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .f32⟩
  | .local _ .vmem, ⟨17, _⟩ => ⟨S256x512, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59_0 : Ref sig .tc := ⟨.hbm, 65, rfl⟩
abbrev main_v59_1 : Ref sig .tc := ⟨.hbm, 66, rfl⟩
abbrev main_v59_2 : Ref sig .tc := ⟨.hbm, 67, rfl⟩
abbrev main_v59_3 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RopeReferenceIdeal.lean ====
abbrev S8x1024x1024 : Shape := ⟨3, ![8, 1024, 1024]⟩
abbrev S16x6144 : Shape := ⟨2, ![16, 6144]⟩
abbrev S1x1024 : Shape := ⟨2, ![1, 1024]⟩
abbrev S1x1024x2048 : Shape := ⟨3, ![1, 1024, 2048]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S_ : Shape := ⟨0, ![]⟩
abbrev S1024x1 : Shape := ⟨2, ![1024, 1]⟩
abbrev S1x16 : Shape := ⟨2, ![1, 16]⟩
abbrev S1024x16 : Shape := ⟨2, ![1024, 16]⟩
abbrev S1024x64 : Shape := ⟨2, ![1024, 64]⟩
abbrev S1024x1x1x64 : Shape := ⟨4, ![1024, 1, 1, 64]⟩
abbrev S8x6144 : Shape := ⟨2, ![8, 6144]⟩
abbrev S8x1x6144 : Shape := ⟨3, ![8, 1, 6144]⟩
abbrev S8x1x1024 : Shape := ⟨3, ![8, 1, 1024]⟩
abbrev S8x1024 : Shape := ⟨2, ![8, 1024]⟩
abbrev S8x1024x1 : Shape := ⟨3, ![8, 1024, 1]⟩
abbrev S1x1x1024 : Shape := ⟨3, ![1, 1, 1024]⟩
abbrev S1024x2048 : Shape := ⟨2, ![1024, 2048]⟩
abbrev S8x1024x2048 : Shape := ⟨3, ![8, 1024, 2048]⟩
abbrev S8x1024x512 : Shape := ⟨3, ![8, 1024, 512]⟩
abbrev S8x1024x4x2x64 : Shape := ⟨5, ![8, 1024, 4, 2, 64]⟩
abbrev S8x1024x4x2x16 : Shape := ⟨5, ![8, 1024, 4, 2, 16]⟩
abbrev S1x1024x1x1x64 : Shape := ⟨5, ![1, 1024, 1, 1, 64]⟩
abbrev S8192x512 : Shape := ⟨2, ![8192, 512]⟩

abbrev nBuf : Space → Nat
  | .hbm => 111
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S16x6144, .f32⟩
  | .hbm, ⟨2, _⟩ => ⟨S1x1024, .f32⟩
  | .hbm, ⟨3, _⟩ => ⟨S1x1024x2048, .f32⟩
  | .hbm, ⟨4, _⟩ => ⟨S16, .i32⟩
  | .hbm, ⟨5, _⟩ => ⟨S16x64, .i32⟩
  | .hbm, ⟨6, _⟩ => ⟨S1024, .i32⟩
  | .hbm, ⟨7, _⟩ => ⟨S1024, .f32⟩
  | .hbm, ⟨8, _⟩ => ⟨S64, .i32⟩
  | .hbm, ⟨9, _⟩ => ⟨S1x64, .i32⟩
  | .hbm, ⟨10, _⟩ => ⟨S16x64, .i32⟩
  | .hbm, ⟨11, _⟩ => ⟨S1024, .i32⟩
  | .hbm, ⟨12, _⟩ => ⟨S1024, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S1024x1, .f32⟩
  | .hbm, ⟨22, _⟩ => ⟨S1x16, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S1024x1, .f32⟩
  | .hbm, ⟨27, _⟩ => ⟨S1x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x64, .f32⟩
  | .hbm, ⟨32, _⟩ => ⟨S1024x64, .f32⟩
  | .hbm, ⟨33, _⟩ => ⟨S1024x1x1x64, .f32⟩
  | .hbm, ⟨34, _⟩ => ⟨S1024x64, .f32⟩
  | .hbm, ⟨35, _⟩ => ⟨S1024x1x1x64, .f32⟩
  | .hbm, ⟨36, _⟩ => ⟨S8x6144, .f32⟩
  | .hbm, ⟨37, _⟩ => ⟨S8x1x6144, .f32⟩
  | .hbm, ⟨38, _⟩ => ⟨S8x1x1024, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x1x1024, .f32⟩
  | .hbm, ⟨43, _⟩ => ⟨S8x1x1024, .f32⟩
  | .hbm, ⟨44, _⟩ => ⟨S1024, .f32⟩
  | .hbm, ⟨45, _⟩ => ⟨S8x1024x1024, .f32⟩
  | .hbm, ⟨46, _⟩ => ⟨S_, .f32⟩
  | .hbm, ⟨47, _⟩ => ⟨S8x1024, .f32⟩
  | .hbm, ⟨48, _⟩ => ⟨S8x1024x1, .f32⟩
  | .hbm, ⟨49, _⟩ => ⟨S_, .f32⟩
  | .hbm, ⟨50, _⟩ => ⟨S8x1024x1, .f32⟩
  | .hbm, ⟨51, _⟩ => ⟨S8x1024x1, .f32⟩
  | .hbm, ⟨52, _⟩ => ⟨S_, .f32⟩
  | .hbm, ⟨53, _⟩ => ⟨S8x1024x1, .f32⟩
  | .hbm, ⟨54, _⟩ => ⟨S8x1024x1, .f32⟩
  | .hbm, ⟨55, _⟩ => ⟨S8x1024x1, .f32⟩
  | .hbm, ⟨56, _⟩ => ⟨S8x1024x1024, .f32⟩
  | .hbm, ⟨57, _⟩ => ⟨S8x1024x1024, .f32⟩
  | .hbm, ⟨58, _⟩ => ⟨S1x1x1024, .f32⟩
  | .hbm, ⟨59, _⟩ => ⟨S8x1024x1024, .f32⟩
  | .hbm, ⟨60, _⟩ => ⟨S8x1024x1024, .f32⟩
  | .hbm, ⟨61, _⟩ => ⟨S_, .f32⟩
  | .hbm, ⟨62, _⟩ => ⟨S8x1x1024, .f32⟩
  | .hbm, ⟨63, _⟩ => ⟨S8x1x1024, .f32⟩
  | .hbm, ⟨64, _⟩ => ⟨S8x1024x1024, .f32⟩
  | .hbm, ⟨65, _⟩ => ⟨S8x1024x1024, .f32⟩
  | .hbm, ⟨66, _⟩ => ⟨S8x1024x1024, .f32⟩
  | .hbm, ⟨67, _⟩ => ⟨S8x1024x1024, .f32⟩
  | .hbm, ⟨68, _⟩ => ⟨S1024x2048, .f32⟩
  | .hbm, ⟨69, _⟩ => ⟨S8x1024x2048, .f32⟩
  | .hbm, ⟨70, _⟩ => ⟨S8x1024x512, .f32⟩
  | .hbm, ⟨71, _⟩ => ⟨S8x1024x4x2x64, .f32⟩
  | .hbm, ⟨72, _⟩ => ⟨S8x1024x4x2x16, .f32⟩
  | .hbm, ⟨73, _⟩ => ⟨S8x1024x4x2x16, .f32⟩
  | .hbm, ⟨74, _⟩ => ⟨S8x1024x4x2x16, .f32⟩
  | .hbm, ⟨75, _⟩ => ⟨S8x1024x4x2x16, .f32⟩
  | .hbm, ⟨76, _⟩ => ⟨S8x1024x4x2x16, .f32⟩
  | .hbm, ⟨77, _⟩ => ⟨S8x1024x4x2x16, .f32⟩
  | .hbm, ⟨78, _⟩ => ⟨S8x1024x4x2x64, .f32⟩
  | .hbm, ⟨79, _⟩ => ⟨S1x1024x1x1x64, .f32⟩
  | .hbm, ⟨80, _⟩ => ⟨S8x1024x4x2x64, .f32⟩
  | .hbm, ⟨81, _⟩ => ⟨S8x1024x4x2x64, .f32⟩
  | .hbm, ⟨82, _⟩ => ⟨S1x1024x1x1x64, .f32⟩
  | .hbm, ⟨83, _⟩ => ⟨S8x1024x4x2x64, .f32⟩
  | .hbm, ⟨84, _⟩ => ⟨S8x1024x4x2x64, .f32⟩
  | .hbm, ⟨85, _⟩ => ⟨S8x1024x4x2x64, .f32⟩
  | .hbm, ⟨86, _⟩ => ⟨S8x1024x512, .f32⟩
  | .hbm, ⟨87, _⟩ => ⟨S8x1024x4x2x64, .f32⟩
  | .hbm, ⟨88, _⟩ => ⟨S8x1024x4x2x16, .f32⟩
  | .hbm, ⟨89, _⟩ => ⟨S8x1024x4x2x16, .f32⟩
  | .hbm, ⟨90, _⟩ => ⟨S8x1024x4x2x16, .f32⟩
  | .hbm, ⟨91, _⟩ => ⟨S8x1024x4x2x16, .f32⟩
  | .hbm, ⟨92, _⟩ => ⟨S8x1024x4x2x16, .f32⟩
  | .hbm, ⟨93, _⟩ => ⟨S8x1024x4x2x16, .f32⟩
  | .hbm, ⟨94, _⟩ => ⟨S8x1024x4x2x64, .f32⟩
  | .hbm, ⟨95, _⟩ => ⟨S1x1024x1x1x64, .f32⟩
  | .hbm, ⟨96, _⟩ => ⟨S8x1024x4x2x64, .f32⟩
  | .hbm, ⟨97, _⟩ => ⟨S8x1024x4x2x64, .f32⟩
  | .hbm, ⟨98, _⟩ => ⟨S1x1024x1x1x64, .f32⟩
  | .hbm, ⟨99, _⟩ => ⟨S8x1024x4x2x64, .f32⟩
  | .hbm, ⟨100, _⟩ => ⟨S8x1024x4x2x64, .f32⟩
  | .hbm, ⟨101, _⟩ => ⟨S8x1024x4x2x64, .f32⟩
  | .hbm, ⟨102, _⟩ => ⟨S8x1024x512, .f32⟩
  | .hbm, ⟨103, _⟩ => ⟨S8x1024x512, .f32⟩
  | .hbm, ⟨104, _⟩ => ⟨S8192x512, .f32⟩
  | .hbm, ⟨105, _⟩ => ⟨S8192x512, .bf16⟩
  | .hbm, ⟨106, _⟩ => ⟨S8192x512, .f32⟩
  | .hbm, ⟨107, _⟩ => ⟨S8192x512, .bf16⟩
  | .hbm, ⟨108, _⟩ => ⟨S8192x512, .f32⟩
  | .hbm, ⟨109, _⟩ => ⟨S8192x512, .bf16⟩
  | .hbm, ⟨110, _⟩ => ⟨S8192x512, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩

abbrev nD : Nat := 1
abbrev τ : Topo := Topo.v7x

variable {F : FTy → Type} [FloatOps F]
-- ==== Fourier.lean ====
abbrev S8192x512 : Shape := ⟨2, ![8192, 512]⟩
abbrev S1x4x128x128 : Shape := ⟨4, ![1, 4, 128, 128]⟩
abbrev S4x128x128 : Shape := ⟨3, ![4, 128, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1024x512 : Shape := ⟨2, ![1024, 512]⟩
abbrev S1024x128 : Shape := ⟨2, ![1024, 128]⟩
abbrev S1x128x128 : Shape := ⟨3, ![1, 128, 128]⟩

abbrev nBuf : Space → Nat
  | .hbm => 101
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S1x4x128x128, .f32⟩
  | .hbm, ⟨2, _⟩ => ⟨S4x128x128, .f32⟩
  | .hbm, ⟨3, _⟩ => ⟨S4x128x128, .bf16⟩
  | .hbm, ⟨4, _⟩ => ⟨S1024, .i32⟩
  | .hbm, ⟨5, _⟩ => ⟨S1024x1, .i32⟩
  | .hbm, ⟨6, _⟩ => ⟨S1x1024, .i32⟩
  | .hbm, ⟨7, _⟩ => ⟨S1024x1024, .i32⟩
  | .hbm, ⟨8, _⟩ => ⟨S1024x1024, .i32⟩
  | .hbm, ⟨9, _⟩ => ⟨S1024x1024, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S_, .i32⟩
  | .hbm, ⟨19, _⟩ => ⟨S1024x1024, .i32⟩
  | .hbm, ⟨20, _⟩ => ⟨S1024x1024, .i1⟩
  | .hbm, ⟨21, _⟩ => ⟨S_, .i32⟩
  | .hbm, ⟨22, _⟩ => ⟨S1024x1024, .i32⟩
  | .hbm, ⟨23, _⟩ => ⟨S1024x1024, .i1⟩
  | .hbm, ⟨24, _⟩ => ⟨S_, .i32⟩
  | .hbm, ⟨25, _⟩ => ⟨S_, .i1⟩
  | .hbm, ⟨26, _⟩ => ⟨S1024x1024, .i1⟩
  | .hbm, ⟨27, _⟩ => ⟨S1024x1024, .i1⟩
  | .hbm, ⟨28, _⟩ => ⟨S1024x1024, .i1⟩
  | .hbm, ⟨29, _⟩ => ⟨S1024x1024, .i32⟩
  | .hbm, ⟨30, _⟩ => ⟨S1024x1024, .i32⟩
  | .hbm, ⟨31, _⟩ => ⟨S1024x1024, .i32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S1024x1024, .bf16⟩
  | .hbm, ⟨49, _⟩ => ⟨S1024x1024, .f32⟩
  | .hbm, ⟨50, _⟩ => ⟨S1024x1024, .f32⟩
  | .hbm, ⟨51, _⟩ => ⟨S1024x1024, .bf16⟩
  | .hbm, ⟨52, _⟩ => ⟨S128, .i32⟩
  | .hbm, ⟨53, _⟩ => ⟨S128x1, .i32⟩
  | .hbm, ⟨54, _⟩ => ⟨S1x128, .i32⟩
  | .hbm, ⟨55, _⟩ => ⟨S128x128, .i32⟩
  | .hbm, ⟨56, _⟩ => ⟨S128x128, .i32⟩
  | .hbm, ⟨57, _⟩ => ⟨S128x128, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x128, .i32⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i1⟩
  | .hbm, ⟨69, _⟩ => ⟨S_, .i32⟩
  | .hbm, ⟨70, _⟩ => ⟨S128x128, .i32⟩
  | .hbm, ⟨71, _⟩ => ⟨S128x128, .i1⟩
  | .hbm, ⟨72, _⟩ => ⟨S_, .i32⟩
  | .hbm, ⟨73, _⟩ => ⟨S_, .i1⟩
  | .hbm, ⟨74, _⟩ => ⟨S128x128, .i1⟩
  | .hbm, ⟨75, _⟩ => ⟨S128x128, .i1⟩
  | .hbm, ⟨76, _⟩ => ⟨S128x128, .i1⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .f32⟩
  | .hbm, ⟨81, _⟩ => ⟨S_, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S_, .f32⟩
  | .hbm, ⟨86, _⟩ => ⟨S128x128, .f32⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .f32⟩
  | .hbm, ⟨91, _⟩ => ⟨S128x128, .bf16⟩
  | .hbm, ⟨92, _⟩ => ⟨S128x128, .f32⟩
  | .hbm, ⟨93, _⟩ => ⟨S_, .f32⟩
  | .hbm, ⟨94, _⟩ => ⟨S128x128, .f32⟩
  | .hbm, ⟨95, _⟩ => ⟨S128x128, .f32⟩
  | .hbm, ⟨96, _⟩ => ⟨S128x128, .bf16⟩
  | .hbm, ⟨97, _⟩ => ⟨S128x128, .f32⟩
  | .hbm, ⟨98, _⟩ => ⟨S128x128, .f32⟩
  | .hbm, ⟨99, _⟩ => ⟨S128x128, .bf16⟩
  | .hbm, ⟨100, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S4x128x128, .bf16⟩
  | .local _ .vmem, ⟨11, _⟩ => ⟨S1024x512, .bf16⟩
  | .local _ .vmem, ⟨12, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_2 : Ref sig .tc := ⟨.hbm, 58, rfl⟩
abbrev main_call1_v0 : Ref sig .tc := ⟨.hbm, 59, rfl⟩
abbrev main_call1_c : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_c_1 : Ref sig .tc := ⟨.hbm, 66, rfl⟩
abbrev main_call1_v5 : Ref sig .tc := ⟨.hbm, 67, rfl⟩
abbrev main_call1_v6 : Ref sig .tc := ⟨.hbm, 68, rfl⟩
abbrev main_call1_c_2 : Ref sig .tc := ⟨.hbm, 69, rfl⟩
abbrev main_call1_v7 : Ref sig .tc := ⟨.hbm, 70, rfl⟩
abbrev main_call1_v8 : Ref sig .tc := ⟨.hbm, 71, rfl⟩
abbrev main_call1_c_3 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_v32 : Ref sig .tc := ⟨.hbm, 79, rfl⟩
abbrev main_v33 : Ref sig .tc := ⟨.hbm, 80, rfl⟩
abbrev main_cst_3 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_cst_4 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FourierReferenceIdeal.lean ====
abbrev S8192x512 : Shape := ⟨2, ![8192, 512]⟩
abbrev S1x4x128x128 : Shape := ⟨4, ![1, 4, 128, 128]⟩
abbrev S8x1024x4x128 : Shape := ⟨4, ![8, 1024, 4, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x4x128x1024 : Shape := ⟨4, ![8, 4, 128, 1024]⟩
abbrev S4x128x128 : Shape := ⟨3, ![4, 128, 128]⟩
abbrev S4x128x8x1024 : Shape := ⟨4, ![4, 128, 8, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S1x4x128x128, .f32⟩
  | .hbm, ⟨2, _⟩ => ⟨S8x1024x4x128, .f32⟩
  | .hbm, ⟨3, _⟩ => ⟨S1024, .i32⟩
  | .hbm, ⟨4, _⟩ => ⟨S1024x1, .i32⟩
  | .hbm, ⟨5, _⟩ => ⟨S1x1024, .i32⟩
  | .hbm, ⟨6, _⟩ => ⟨S1024x1024, .i32⟩
  | .hbm, ⟨7, _⟩ => ⟨S1024x1024, .i32⟩
  | .hbm, ⟨8, _⟩ => ⟨S1024x1024, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S1024x1024, .i32⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i1⟩
  | .hbm, ⟨20, _⟩ => ⟨S_, .i32⟩
  | .hbm, ⟨21, _⟩ => ⟨S1024x1024, .i32⟩
  | .hbm, ⟨22, _⟩ => ⟨S1024x1024, .i1⟩
  | .hbm, ⟨23, _⟩ => ⟨S_, .i32⟩
  | .hbm, ⟨24, _⟩ => ⟨S_, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S128, .i32⟩
  | .hbm, ⟨44, _⟩ => ⟨S128x1, .i32⟩
  | .hbm, ⟨45, _⟩ => ⟨S1x128, .i32⟩
  | .hbm, ⟨46, _⟩ => ⟨S128x128, .i32⟩
  | .hbm, ⟨47, _⟩ => ⟨S128x128, .i32⟩
  | .hbm, ⟨48, _⟩ => ⟨S128x128, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S128x128, .i32⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i1⟩
  | .hbm, ⟨60, _⟩ => ⟨S_, .i32⟩
  | .hbm, ⟨61, _⟩ => ⟨S128x128, .i32⟩
  | .hbm, ⟨62, _⟩ => ⟨S128x128, .i1⟩
  | .hbm, ⟨63, _⟩ => ⟨S_, .i32⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S128x128, .i1⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .f32⟩
  | .hbm, ⟨72, _⟩ => ⟨S_, .f32⟩
  | .hbm, ⟨73, _⟩ => ⟨S128x128, .f32⟩
  | .hbm, ⟨74, _⟩ => ⟨S128x128, .f32⟩
  | .hbm, ⟨75, _⟩ => ⟨S128x128, .f32⟩
  | .hbm, ⟨76, _⟩ => ⟨S_, .f32⟩
  | .hbm, ⟨77, _⟩ => ⟨S128x128, .f32⟩
  | .hbm, ⟨78, _⟩ => ⟨S128x128, .f32⟩
  | .hbm, ⟨79, _⟩ => ⟨S128x128, .f32⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S8x4x128x1024, .f32⟩
  | .hbm, ⟨84, _⟩ => ⟨S8x1024x4x128, .f32⟩
  | .hbm, ⟨85, _⟩ => ⟨S8x4x128x1024, .f32⟩
  | .hbm, ⟨86, _⟩ => ⟨S8x1024x4x128, .f32⟩
  | .hbm, ⟨87, _⟩ => ⟨S8x1024x4x128, .f32⟩
  | .hbm, ⟨88, _⟩ => ⟨S8x1024x4x128, .f32⟩
  | .hbm, ⟨89, _⟩ => ⟨S8x1024x4x128, .f32⟩
  | .hbm, ⟨90, _⟩ => ⟨S4x128x128, .f32⟩
  | .hbm, ⟨91, _⟩ => ⟨S4x128x8x1024, .f32⟩
  | .hbm, ⟨92, _⟩ => ⟨S8x1024x4x128, .f32⟩
  | .hbm, ⟨93, _⟩ => ⟨S8192x512, .f32⟩
  | .hbm, ⟨94, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_1 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v23 : Ref sig .tc := ⟨.hbm, 70, rfl⟩
abbrev main_v24 : Ref sig .tc := ⟨.hbm, 71, rfl⟩
abbrev main_cst_3 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_4 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_cst_5 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩

abbrev nD : Nat := 1
abbrev τ : Topo := Topo.v7x

variable {F : FTy → Type} [FloatOps F]
-- ==== Proof.Attn.Math.lean ====
/-
  The mathematics of differential attention on one row of queries, over the extended reals: a softmax over a finite
  set of keys, the difference of two of them applied to the values, and the normalisation of the row that results.
  The keys are indexed by any finite type, so that the row can be cut into old and new keys.
-/
module

public import Idealize.ShloMosaic.Lib.Pointwise

@[expose] public section

noncomputable section

namespace Attn

open Idealize.ShloMosaic

variable {κ ι : Type} [Fintype κ] [Fintype ι]

/-- The sum of the exponentials of the scores, each less the largest one. -/
def den (s : κ → EReal) : EReal := ∑ k, Ideal.exp (s k - Finset.univ.sup s)

/-- The softmax of the scores `s` at the key `k`. -/
def prob (s : κ → EReal) (k : κ) : EReal := Ideal.div (Ideal.exp (s k - Finset.univ.sup s)) (den s)

/-- The values' average under the first softmax less `lam` times the second. -/
def mix (lam : EReal) (s₁ s₂ : κ → EReal) (v : κ → EReal) : EReal :=
  ∑ k, (prob s₁ k - lam * prob s₂ k) * v k

theorem exp_nonneg (x : EReal) : 0 ≤ Ideal.exp x := by
  induction x with
  | bot => exact le_rfl
  | top => exact le_top
  | coe r => exact EReal.coe_nonneg.2 (Real.exp_pos r).le

/-- Where the largest score is a real number the sum of the exponentials is not zero: its largest term is one. -/
theorem den_ne_zero [Nonempty κ] (s : κ → EReal) (hs : ∀ k, ∃ r : ℝ, s k = r) : den s ≠ 0 := by
  obtain ⟨k, _, hk⟩ := Finset.exists_mem_eq_sup (Finset.univ : Finset κ) Finset.univ_nonempty s
  obtain ⟨r, hr⟩ := hs k
  have h1 : Ideal.exp (s k - Finset.univ.sup s) = 1 := by
    rw [hk, hr, ← EReal.coe_sub, sub_self]
    change ((Real.exp 0 : ℝ) : EReal) = 1
    rw [Real.exp_zero]; rfl
  have h2 : (1 : EReal) ≤ den s := by
    rw [← h1]
    exact Finset.single_le_sum (f := fun k => Ideal.exp (s k - Finset.univ.sup s)) (fun i _ => exp_nonneg _) (Finset.mem_univ k)
  intro h
  rw [h] at h2
  exact absurd h2 (by norm_num)

/-- Dividing is multiplying by the reciprocal, where the divisor is not zero. -/
theorem div_eq_mul (x y : EReal) (hy : y ≠ 0) : x * Ideal.div 1 y = Ideal.div x y := by
  unfold Ideal.div
  rw [if_neg hy, if_neg hy, one_mul]

/-- The mixture with the keys numbered otherwise. -/
theorem mix_equiv (f : ι ≃ κ) (lam : EReal) (s₁ s₂ v : κ → EReal) :
    mix lam (s₁ ∘ f) (s₂ ∘ f) (v ∘ f) = mix lam s₁ s₂ v := by
  have hsup : ∀ s : κ → EReal, Finset.univ.sup (s ∘ f) = Finset.univ.sup s := fun s => by
    rw [← Finset.map_univ_equiv f, Finset.sup_map]; rfl
  have hden : ∀ s : κ → EReal, den (s ∘ f) = den s := fun s => by
    unfold den; rw [hsup]
    exact f.sum_comp fun k => Ideal.exp (s k - Finset.univ.sup s)
  unfold mix prob
  rw [hsup, hsup, hden, hden]
  exact f.sum_comp fun k => (Ideal.div (Ideal.exp (s₁ k - Finset.univ.sup s₁)) (den s₁)
    - lam * Ideal.div (Ideal.exp (s₂ k - Finset.univ.sup s₂)) (den s₂)) * v k

/-- The largest of two sets of scores taken together is the larger of the two largest. -/
theorem sup_sum (s : ι ⊕ κ → EReal) :
    Finset.univ.sup s = max (Finset.univ.sup fun i => s (.inl i)) (Finset.univ.sup fun k => s (.inr k)) := by
  rw [← Finset.univ_disjSum_univ, Finset.sup_disjSum]

/-- The mixture over one set of keys, its weights written with reciprocals of the two denominators. -/
theorem mix_recip [Nonempty κ] (lam : EReal) (s₁ s₂ v : κ → EReal) (h₁ : ∀ k, ∃ r : ℝ, s₁ k = r)
    (h₂ : ∀ k, ∃ r : ℝ, s₂ k = r) :
    ∑ k, (Ideal.exp (s₁ k - Finset.univ.sup s₁) * Ideal.div 1 (den s₁)
        - Ideal.exp (s₂ k - Finset.univ.sup s₂) * (lam * Ideal.div 1 (den s₂))) * v k = mix lam s₁ s₂ v := by
  unfold mix prob
  refine Finset.sum_congr rfl fun k _ => ?_
  rw [div_eq_mul _ _ (den_ne_zero s₁ h₁), mul_left_comm, div_eq_mul _ _ (den_ne_zero s₂ h₂)]

/-- A product of real numbers summed up is a real number. -/
theorem real_dot (a b : κ → EReal) (ha : ∀ k, ∃ r : ℝ, a k = r) (hb : ∀ k, ∃ r : ℝ, b k = r) :
    ∃ r : ℝ, ∑ k, a k * b k = r := by
  choose x hx using ha
  choose y hy using hb
  refine ⟨∑ k, x k * y k, ?_⟩
  have h : ∀ S : Finset κ, ∑ k ∈ S, a k * b k = ((∑ k ∈ S, x k * y k : ℝ) : EReal) := by
    classical
    intro S
    induction S using Finset.induction_on with
    | empty => rfl
    | insert k S hk ih => rw [Finset.sum_insert hk, Finset.sum_insert hk, ih, hx, hy, EReal.coe_add, EReal.coe_mul]
  exact h _

/-- The word of minus infinity. -/
theorem neg_inf : Ideal.ofBits FTy.f32 4286578688#32 = ⊥ := by
  rw [Ideal.ofBits]
  simp [Ideal.ieee]

/-- A running maximum from minus infinity is the largest element. -/
theorem fold_max (s : κ → EReal) :
    Finset.fold max (Ideal.ofBits FTy.f32 4286578688#32) s Finset.univ = Finset.univ.sup s := by
  rw [neg_inf]; rfl

/-- The score of a query against the keys: their product over the head's dimension, times the scale 1/8. -/
def score (q : Fin 64 → EReal) (k : κ → Fin 64 → EReal) (i : κ) : EReal :=
  (∑ d, q d * k i d) * Ideal.ofBits FTy.f32 1040187392#32

/-- The root-mean-square normalisation of a head's row `o`, times the gain and the factor 1 − λ₀. -/
def rowNorm (o g : Fin 128 → EReal) (e : Fin 128) : EReal :=
  o e * Ideal.rsqrt (Ideal.div (∑ i, o i * o i) (Ideal.ofBits FTy.f32 1124073472#32) + Ideal.ofBits FTy.f32 897988541#32)
    * g e * Ideal.ofBits FTy.f32 1061997773#32

/-- The weight λ of the second softmax. -/
def lam (a b c d : Fin 64 → EReal) : EReal :=
  Ideal.exp (∑ i, a i * b i) - Ideal.exp (∑ i, c i * d i) + Ideal.ofBits FTy.f32 1045220557#32

/-- A sum over the lanes of one head, cut down to its first map. -/
theorem sum_first (f : Fin 128 → EReal) :
    ∑ x : Fin 128, Scalar.select (IntOp.cmpi CmpIPredicate.slt (BitVec.ofNat 32 ↑x) 64#32) (f x) 0
      = ∑ d : Fin 64, f ⟨d, by omega⟩ := by
  rw [Fin.sum_univ_two_halves 64 64 rfl]
  have h0 : ∀ d : Fin 64, IntOp.cmpi CmpIPredicate.slt (BitVec.ofNat 32 d.val) 64#32 = 1#1 := by decide
  have h1 : ∀ d : Fin 64, IntOp.cmpi CmpIPredicate.slt (BitVec.ofNat 32 (64 + d.val)) 64#32 = 0#1 := by decide
  simp only [h0, h1]
  change (∑ d : Fin 64, f ⟨d, _⟩) + ∑ d : Fin 64, (0 : EReal) = _
  rw [Finset.sum_const_zero, add_zero]

/-- The same for its second map. -/
theorem sum_second (f : Fin 128 → EReal) :
    ∑ x : Fin 128, Scalar.select (IntOp.cmpi CmpIPredicate.sge (BitVec.ofNat 32 ↑x) 64#32) (f x) 0
      = ∑ d : Fin 64, f ⟨64 + d, by omega⟩ := by
  rw [Fin.sum_univ_two_halves 64 64 rfl]
  have h0 : ∀ d : Fin 64, IntOp.cmpi CmpIPredicate.sge (BitVec.ofNat 32 d.val) 64#32 = 0#1 := by decide
  have h1 : ∀ d : Fin 64, IntOp.cmpi CmpIPredicate.sge (BitVec.ofNat 32 (64 + d.val)) 64#32 = 1#1 := by decide
  simp only [h0, h1]
  change (∑ d : Fin 64, (0 : EReal)) + ∑ d : Fin 64, f ⟨64 + d, _⟩ = _
  rw [Finset.sum_const_zero, zero_add]

/-- A score of real numbers is a real number. -/
theorem real_score (q : Fin 64 → EReal) (k : κ → Fin 64 → EReal) (hq : ∀ d, ∃ r : ℝ, q d = r)
    (hk : ∀ i d, ∃ r : ℝ, k i d = r) (i : κ) : ∃ r : ℝ, score q k i = r := by
  obtain ⟨a, ha⟩ := real_dot q (k i) hq (hk i)
  obtain ⟨b, hb⟩ : ∃ b : ℝ, Ideal.ofBits FTy.f32 1040187392#32 = b := by
    refine ⟨8388608 * (2 ^ 26)⁻¹, ?_⟩
    rw [Ideal.ofBits, EReal.coe_mul]
    simp [Ideal.ieee]
  exact ⟨a * b, by unfold score; rw [ha, hb, EReal.coe_mul]⟩

end Attn

end
-- ==== Proof.Attn.Block.lean ====
/-
  What the attention kernel stores at one grid point, from the blocks that the point reads: each row of the block is
  the row of differential attention (Proof/Attn/Math.lean) over the old keys and the new ones.
-/
module

public import proofs.«01_k».proof.Proof.Gen.KernelIdeal.Frame
public import proofs.«01_k».proof.Proof.Attn.Math
public import Idealize.ShloMosaic.Lib.Pipeline.ValueKit

@[expose] public section

set_option maxRecDepth 16384

noncomputable section

namespace Attn

open Idealize.ShloMosaic Idealize.ShloMosaic.TcCoe Idealize.SL.Sem
open Cert.KernelIdeal Cert.KernelIdeal.Gen

variable (x0 x1 x2 x3 : Vec Ideal S1x64 .f32) (x4 : Vec Ideal S1x128 .f32) (x5 : Vec Ideal S256x128 .bf16)
  (x6 x7 : Vec Ideal S1024x128 .bf16) (x8 x9 : Vec Ideal S256x128 .f32)

/-- The keys of the first map at one point: the old ones, then the new ones. -/
def keys₁ : Fin 256 ⊕ Fin 1024 → Fin 64 → EReal :=
  Sum.elim (fun k d => x8 (ix2 k (⟨d, by omega⟩ : Fin 128))) (fun k d => x6 (ix2 k (⟨d, by omega⟩ : Fin 128)))

/-- The keys of the second map: the head's other 64 lanes. -/
def keys₂ : Fin 256 ⊕ Fin 1024 → Fin 64 → EReal :=
  Sum.elim (fun k d => x8 (ix2 k (⟨64 + d, by omega⟩ : Fin 128))) (fun k d => x6 (ix2 k (⟨64 + d, by omega⟩ : Fin 128)))

/-- The values at one point, in the keys' order. -/
def vals (e : Fin 128) : Fin 256 ⊕ Fin 1024 → EReal :=
  Sum.elim (fun k => x9 (ix2 k e)) (fun k => x7 (ix2 k e))

set_option maxHeartbeats 1000000 in
/-- The stored block at row `r` and lane `e`, where the queries and the keys are real numbers. -/
theorem block_apply (h5 : ∀ i, ∃ r : ℝ, (x5 i : EReal) = r) (h6 : ∀ i, ∃ r : ℝ, (x6 i : EReal) = r)
    (h8 : ∀ i, ∃ r : ℝ, (x8 i : EReal) = r) (r : Fin 256) (e : Fin 128) :
    out0_10 x0 x1 x2 x3 x4 x5 x6 x7 x8 x9 (ix2 r e)
      = rowNorm (fun e' => mix (lam (fun i => x0 (ix2 0 i)) (fun i => x1 (ix2 0 i)) (fun i => x2 (ix2 0 i)) (fun i => x3 (ix2 0 i)))
          (score (fun d => x5 (ix2 r (⟨d, by omega⟩ : Fin 128))) (keys₁ x6 x8))
          (score (fun d => x5 (ix2 r (⟨64 + d, by omega⟩ : Fin 128))) (keys₂ x6 x8))
          (vals x7 x9 e')) (fun e' => x4 (ix2 0 e')) e := by
  unfold_out out0_10
  frame_out
  unfold_payloads
  pointwise
  simp only [sum_first, sum_second, fold_max]
  have hm : ∀ e', mix (lam (fun i => x0 (ix2 0 i)) (fun i => x1 (ix2 0 i)) (fun i => x2 (ix2 0 i)) (fun i => x3 (ix2 0 i)))
      (score (fun d => x5 (ix2 r (⟨d, by omega⟩ : Fin 128))) (keys₁ x6 x8))
      (score (fun d => x5 (ix2 r (⟨64 + d, by omega⟩ : Fin 128))) (keys₂ x6 x8)) (vals x7 x9 e') = _ := fun e' =>
    (mix_recip _ _ _ _
      (real_score _ _ (fun d => h5 _) (by rintro (k | k) d; exacts [h8 _, h6 _]))
      (real_score _ _ (fun d => h5 _) (by rintro (k | k) d; exacts [h8 _, h6 _]))).symm
  simp only [hm]
  unfold den rowNorm
  simp only [sup_sum, Fintype.sum_sum_type]
  rfl

end Attn

end
-- ==== Proof.Attn.Blocks.lean ====
/-
  The blocks that one grid point of the attention kernel reads, in terms of the arguments as launched: the point is a
  sequence, a head and a tile of 256 queries; it reads that tile, the sequence's keys and values of that head, new and
  old, and the small arrays whole.
-/
module

public import proofs.«01_k».proof.Proof.Gen.KernelIdeal.Frame
public import Idealize.ShloMosaic.Lib.Pipeline.ValueKit

@[expose] public section

set_option maxRecDepth 16384

noncomputable section

namespace Attn

open Idealize.ShloMosaic Idealize.ShloMosaic.TcCoe Idealize.SL.Sem
open Cert.KernelIdeal Cert.KernelIdeal.Gen

/-- The sequence of a grid point. -/
def seqOf (t : Fin cfg0.N) : Fin 8 := grid0.coords t 0
/-- The head of a grid point. -/
def headOf (t : Fin cfg0.N) : Fin 4 := grid0.coords t 1
/-- The tile of queries of a grid point. -/
def tileOf (t : Fin cfg0.N) : Fin 4 := grid0.coords t 2

/-- The windows' block indices at a point. -/
theorem idx (t : Fin cfg0.N) :
    win0_0.index t = ![0, 0] ∧ win0_1.index t = ![0, 0] ∧ win0_2.index t = ![0, 0] ∧ win0_3.index t = ![0, 0]
    ∧ win0_4.index t = ![0, 0]
    ∧ win0_5.index t = ![(seqOf t).val * 4 + (tileOf t).val, (headOf t).val]
    ∧ win0_6.index t = ![(seqOf t).val, (headOf t).val] ∧ win0_7.index t = ![(seqOf t).val, (headOf t).val]
    ∧ win0_8.index t = ![(seqOf t).val, (headOf t).val] ∧ win0_9.index t = ![(seqOf t).val, (headOf t).val]
    ∧ win0_10.index t = ![(seqOf t).val * 4 + (tileOf t).val, (headOf t).val] := by
  revert t
  decide +kernel

variable (m : (ℓ : Loc nD τ sig) → Buf (Elt Ideal) ℓ) (c : Dev nD) (t : Fin cfg0.N)

theorem blk0 (i : Fin 64) : iblk m c 0 t (ix2 0 i) = m ((c.tc : Thread nD τ).loc main_arg0) (ix2 0 i) := by
  blk_ext! [iblk, V, idx t]

theorem blk1 (i : Fin 64) : iblk m c 1 t (ix2 0 i) = m ((c.tc : Thread nD τ).loc main_arg1) (ix2 0 i) := by
  blk_ext! [iblk, V, idx t]

theorem blk2 (i : Fin 64) : iblk m c 2 t (ix2 0 i) = m ((c.tc : Thread nD τ).loc main_arg2) (ix2 0 i) := by
  blk_ext! [iblk, V, idx t]

theorem blk3 (i : Fin 64) : iblk m c 3 t (ix2 0 i) = m ((c.tc : Thread nD τ).loc main_arg3) (ix2 0 i) := by
  blk_ext! [iblk, V, idx t]

theorem blk4 (i : Fin 128) : iblk m c 4 t (ix2 0 i) = m ((c.tc : Thread nD τ).loc main_arg4) (ix2 0 i) := by
  blk_ext! [iblk, V, idx t]

/-- The tile of queries. -/
theorem blk5 (r : Fin 256) (p : Fin 2) (d : Fin 64) (q : Fin 1024) (l : Fin 128) (hl : l.val = 64 * p.val + d.val)
    (hq : q.val = (tileOf t).val * 256 + r.val) :
    iblk m c 5 t (ix2 r l) = m ((c.tc : Thread nD τ).loc main_arg5) (ix5 (seqOf t) q (headOf t) p d) := by
  blk_ext! [iblk, V, idx t]

/-- The new keys. -/
theorem blk6 (k : Fin 1024) (p : Fin 2) (d : Fin 64) (l : Fin 128) (hl : l.val = 64 * p.val + d.val) :
    iblk m c 6 t (ix2 k l) = m ((c.tc : Thread nD τ).loc main_arg6) (ix5 (seqOf t) k (headOf t) p d) := by
  blk_ext! [iblk, V, idx t]

/-- The new values. -/
theorem blk7 (k : Fin 1024) (e : Fin 128) : iblk m c 7 t (ix2 k e) = m ((c.tc : Thread nD τ).loc main_arg7) (ix4 (seqOf t) k (headOf t) e) := by
  blk_ext! [iblk, V, idx t]

/-- The old keys. -/
theorem blk8 (k : Fin 256) (l : Fin 128) : iblk m c 8 t (ix2 k l) = m ((c.tc : Thread nD τ).loc main_arg8) (ix5 (seqOf t) 0 k (headOf t) l) := by
  blk_ext! [iblk, V, idx t]

/-- The old values. -/
theorem blk9 (k : Fin 256) (e : Fin 128) : iblk m c 9 t (ix2 k e) = m ((c.tc : Thread nD τ).loc main_arg9) (ix5 (seqOf t) 0 k (headOf t) e) := by
  blk_ext! [iblk, V, idx t]

/-- Where the stored tile lies in the result. -/
theorem emb_row (y : S256x128.Idx) : ((((cfg0.win 10).blk t).view.emb y) 0 : ℕ) = ((seqOf t).val * 4 + (tileOf t).val) * 256 + (y 0).val := by
  blk_simp [idx t]

theorem emb_lane (y : S256x128.Idx) : ((((cfg0.win 10).blk t).view.emb y) 1 : ℕ) = (headOf t).val * 128 + (y 1).val := by
  blk_simp [idx t]

end Attn

end
-- ==== Proof.Attn.Ref.lean ====
/-
  What the reference of the attention computes: at each token and head the row of differential attention
  (Proof/Attn/Math.lean) over the cached keys followed by the stream's own.
-/
module

public import proofs.«01_k».proof.Proof.Gen.ReferenceIdeal.Run
public import proofs.«01_k».proof.Proof.Attn.Math

@[expose] public section

set_option maxRecDepth 16384

noncomputable section

namespace Attn

open Idealize.ShloMosaic Idealize.ShloMosaic.TcCoe Idealize.SL.Sem
open Cert.ReferenceIdeal Cert.ReferenceIdeal.Gen

/-- Old keys followed by new ones. -/
def refKeys (ck : FVec Ideal S8x1x256x4x128 .f32) (k : FVec Ideal S8x1024x4x2x64 .f32) : FVec Ideal S8x1280x4x2x64 .f32 :=
  concatenate S8x1280x4x2x64 1 [⟨S8x256x4x2x64, (shapeCast _ (shapeCast _ ck shapeCasts_S8x1x256x4x128_S8x256x4x128) shapeCasts_S8x256x4x128_S8x256x4x2x64)⟩, ⟨S8x1024x4x2x64, k⟩] concatenates_S8x256x4x2x64_S8x1024x4x2x64_S8x1280x4x2x64_d1

/-- Old values followed by new ones. -/
def refVals (cv : FVec Ideal S8x1x256x4x128 .f32) (v : FVec Ideal S8x1024x4x128 .f32) : FVec Ideal S8x1280x4x128 .f32 :=
  concatenate S8x1280x4x128 1 [⟨S8x256x4x128, (shapeCast _ cv shapeCasts_S8x1x256x4x128_S8x256x4x128)⟩, ⟨S8x1024x4x128, v⟩] concatenates_S8x256x4x128_S8x1024x4x128_S8x1280x4x128_d1

/-- The scores of all queries against all keys, for both maps. -/
def refScores (q : FVec Ideal S8x1024x4x2x64 .f32) (k : FVec Ideal S8x1280x4x2x64 .f32) : FVec Ideal S2x8x4x1024x1280 .f32 :=
  mulf (Host.dotGeneral dot_S8x1024x4x2x64_S8x1280x4x2x64_S2x8x4x1024x1280_4_4_1_1_302_302 none q k) (broadcastInDim S2x8x4x1024x1280 ![] bcast_S_S2x8x4x1024x1280 (constant S_ .f32 0x3E000000#32))

/-- Each row's largest score. -/
def refMax (s : FVec Ideal S2x8x4x1024x1280 .f32) : FVec Ideal S2x8x4x1024 .f32 :=
  maximumf (broadcastInDim S2x8x4x1024 ![] bcast_S_S2x8x4x1024 (constant S_ .f32 0xFF800000#32)) (Host.reduce FloatOps.maximumf s (constant S_ .f32 0xFF800000#32) reducesTo_S2x8x4x1024x1280_S2x8x4x1024_d4 h_S_)

/-- The exponentials of the scores less their row's largest. -/
def refExp (s : FVec Ideal S2x8x4x1024x1280 .f32) : FVec Ideal S2x8x4x1024x1280 .f32 :=
  Host.exp (subf s (broadcastInDim S2x8x4x1024x1280 ![0, 1, 2, 3, 4] bcast_S2x8x4x1024x1_S2x8x4x1024x1280_0_1_2_3_4 (broadcastInDim S2x8x4x1024x1 ![0, 1, 2, 3] bcast_S2x8x4x1024_S2x8x4x1024x1_0_1_2_3 (refMax s))))

/-- The softmax of the scores along the keys. -/
def refProb (s : FVec Ideal S2x8x4x1024x1280 .f32) : FVec Ideal S2x8x4x1024x1280 .f32 :=
  Host.divf (refExp s) (broadcastInDim S2x8x4x1024x1280 ![0, 1, 2, 3, 4] bcast_S2x8x4x1024x1_S2x8x4x1024x1280_0_1_2_3_4 (broadcastInDim S2x8x4x1024x1 ![0, 1, 2, 3] bcast_S2x8x4x1024_S2x8x4x1024x1_0_1_2_3 (Host.reduceAdd (refExp s) (constant S_ .f32 0x00000000#32) reducesTo_S2x8x4x1024x1280_S2x8x4x1024_d4 h_S_)))

/-- The weight of the second map. -/
def refLam (a b c d : FVec Ideal S1x64 .f32) : FVec Ideal S_ .f32 :=
  addf (subf (Host.exp (Host.reduceAdd (mulf (shapeCast S64 a shapeCasts_S1x64_S64) (shapeCast S64 b shapeCasts_S1x64_S64)) (constant S_ .f32 0x00000000#32) reducesTo_S64_S_d0 h_S_)) (Host.exp (Host.reduceAdd (mulf (shapeCast S64 c shapeCasts_S1x64_S64) (shapeCast S64 d shapeCasts_S1x64_S64)) (constant S_ .f32 0x00000000#32) reducesTo_S64_S_d0 h_S_))) (constant S_ .f32 0x3E4CCCCD#32)

/-- The values under the difference of the two softmaxes. -/
def refMix (l : FVec Ideal S_ .f32) (p : FVec Ideal S2x8x4x1024x1280 .f32) (v : FVec Ideal S8x1280x4x128 .f32) : FVec Ideal S8x1024x4x128 .f32 :=
  transpose S8x1024x4x128 [0, 3, 1, 2] (Host.dotGeneral dot_S8x1280x4x128_S8x4x1024x1280_S8x4x128x1024_1_3_3_2_02_01 none v (subf (shapeCast _ (extractStridedSlice S1x8x4x1024x1280 ![0, 0, 0, 0, 0] p slices_S2x8x4x1024x1280_S1x8x4x1024x1280_0_0_0_0_0) shapeCasts_S1x8x4x1024x1280_S8x4x1024x1280) (mulf (broadcastInDim S8x4x1024x1280 ![] bcast_S_S8x4x1024x1280 l) (shapeCast _ (extractStridedSlice S1x8x4x1024x1280 ![1, 0, 0, 0, 0] p slices_S2x8x4x1024x1280_S1x8x4x1024x1280_1_0_0_0_0) shapeCasts_S1x8x4x1024x1280_S8x4x1024x1280)))) transposes_S8x4x128x1024_S8x1024x4x128_0_3_1_2

/-- The normalised rows, laid out as the call's result. -/
def refOut (a : FVec Ideal S8x1024x4x128 .f32) (g : FVec Ideal S1x128 .f32) : FVec Ideal S8192x512 .bf16 :=
  truncf .bf16 (shapeCast _ (mulf (mulf (mulf a (broadcastInDim S8x1024x4x128 ![0, 1, 2, 3] bcast_S8x1024x4x1_S8x1024x4x128_0_1_2_3 (Host.rsqrt (addf (Host.divf (broadcastInDim S8x1024x4x1 ![0, 1, 2] bcast_S8x1024x4_S8x1024x4x1_0_1_2 (Host.reduceAdd (mulf a a) (constant S_ .f32 0x00000000#32) reducesTo_S8x1024x4x128_S8x1024x4_d3 h_S_)) (broadcastInDim S8x1024x4x1 ![] bcast_S_S8x1024x4x1 (constant S_ .f32 0x43000000#32))) (broadcastInDim S8x1024x4x1 ![] bcast_S_S8x1024x4x1 (constant S_ .f32 0x358637BD#32)))))) (broadcastInDim S8x1024x4x128 ![0, 1, 2, 3] bcast_S1x1x1x128_S8x1024x4x128_0_1_2_3 (broadcastInDim S1x1x1x128 ![3] bcast_S128_S1x1x1x128_3 (shapeCast _ g shapeCasts_S1x128_S128)))) (broadcastInDim S8x1024x4x128 ![] bcast_S_S8x1024x4x128 (constant S_ .f32 0x3F4CCCCD#32))) shapeCasts_S8x1024x4x128_S8192x512) bitsLt_bf16_f32

/-- The reference's result of its arguments, composed of the steps above. -/
def ref (a b c d : FVec Ideal S1x64 .f32) (g : FVec Ideal S1x128 .f32) (q k : FVec Ideal S8x1024x4x2x64 .f32)
    (v : FVec Ideal S8x1024x4x128 .f32) (ck cv : FVec Ideal S8x1x256x4x128 .f32) : FVec Ideal S8192x512 .bf16 :=
  refOut (refMix (refLam a b c d) (refProb (refScores q (refKeys ck k))) (refVals cv v)) g

theorem res_eq (m : (ℓ : Loc nD τ sig) → Buf (Elt Ideal) ℓ) (c : Dev nD) :
    Value.res_main_v57 m c = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := rfl

variable (a b c d : FVec Ideal S1x64 .f32) (g : FVec Ideal S1x128 .f32) (q k : FVec Ideal S8x1024x4x2x64 .f32)
  (v : FVec Ideal S8x1024x4x128 .f32) (ck cv : FVec Ideal S8x1x256x4x128 .f32)

/-- The numbering of the keys: the 256 old ones, then the 1024 new ones. -/
abbrev number : Fin 256 ⊕ Fin 1024 ≃ Fin 1280 := finSumFinEquiv

/-- The reference's keys of one sequence, head and map. -/
def refKeyRow (s : Fin 8) (h : Fin 4) (p : Fin 2) : Fin 256 ⊕ Fin 1024 → Fin 64 → EReal :=
  Sum.elim (fun i d => ck (ix5 s 0 i h (⟨64 * p + d, by omega⟩ : Fin 128))) (fun i d => k (ix5 s i h p d))

/-- The score of a query against a numbered key. -/
theorem scores_apply (p : Fin 2) (s : Fin 8) (h : Fin 4) (t : Fin 1024) (i : Fin 256 ⊕ Fin 1024) :
    refScores q (refKeys ck k) (ix5 p s h t (number i)) = score (fun d => q (ix5 s t h p d)) (refKeyRow k ck s h p) i := by
  pointwise [refScores, refKeys]
  unfold score
  refine congrArg (· * _) (Finset.sum_congr rfl fun x _ => congrArg (_ * ·) ?_)
  rcases i with i | i
  · have hi : (number (.inl i)).val = i.val := rfl
    simp only [hi]
    rw [dif_pos i.isLt]
    unfold refKeyRow
    exact congrArg (fun l : Fin 128 => ck (ix5 s 0 i h l)) (Fin.ext (by change p.val * 64 + x.val = 64 * p.val + x.val; omega))
  · have hi : (number (.inr i)).val = 256 + i.val := rfl
    simp only [hi]
    rw [dif_neg (by omega)]
    exact congrArg (fun l : Fin 1024 => k (ix5 s l h p x)) (Fin.ext (by change 256 + i.val - 256 = i.val; omega))

/-- The running maximum of a row of scores. -/
theorem fold_apply (x : FVec Ideal S2x8x4x1024x1280 .f32) (p : Fin 2) (s : Fin 8) (h : Fin 4) (t : Fin 1024) :
    Host.reduce FloatOps.maximumf x (constant S_ .f32 0xFF800000#32) reducesTo_S2x8x4x1024x1280_S2x8x4x1024_d4 h_S_ (ix4 p s h t)
      = Finset.fold max (Ideal.ofBits FTy.f32 0xFF800000#32) (fun i => x (ix5 p s h t i)) Finset.univ := by
  pointwise

/-- A maximum with minus infinity. -/
theorem maxInf_apply (y : FVec Ideal S2x8x4x1024 .f32) (j : S2x8x4x1024.Idx) :
    maximumf (broadcastInDim S2x8x4x1024 ![] bcast_S_S2x8x4x1024 (constant S_ .f32 0xFF800000#32)) y j = y j := by
  pointwise
  rw [neg_inf]
  exact bot_sup_eq _

/-- The largest score of a row. -/
theorem max_apply (x : FVec Ideal S2x8x4x1024x1280 .f32) (p : Fin 2) (s : Fin 8) (h : Fin 4) (t : Fin 1024) :
    refMax x (ix4 p s h t) = Finset.univ.sup fun i => x (ix5 p s h t i) :=
  (maxInf_apply _ _).trans ((fold_apply x p s h t).trans (fold_max _))

/-- The exponential of one score less the row's largest. -/
theorem exp_apply (x : FVec Ideal S2x8x4x1024x1280 .f32) (p : Fin 2) (s : Fin 8) (h : Fin 4) (t : Fin 1024) (i : Fin 1280) :
    refExp x (ix5 p s h t i) = Ideal.exp (x (ix5 p s h t i) - Finset.univ.sup fun i => x (ix5 p s h t i)) := by
  rw [← max_apply]
  pointwise [refExp]

/-- The softmax of one row of scores. -/
theorem prob_apply (x : FVec Ideal S2x8x4x1024x1280 .f32) (p : Fin 2) (s : Fin 8) (h : Fin 4) (t : Fin 1024) (i : Fin 1280) :
    refProb x (ix5 p s h t i) = prob (fun i => x (ix5 p s h t i)) i := by
  unfold prob den
  simp only [← exp_apply]
  pointwise [refProb]

/-- The weight of the second map. -/
theorem lam_apply : refLam a b c d ix0 = lam (fun i => a (ix2 0 i)) (fun i => b (ix2 0 i)) (fun i => c (ix2 0 i)) (fun i => d (ix2 0 i)) := by
  pointwise [refLam, lam]

/-- The values under the difference of two maps. -/
theorem mix_apply (l : FVec Ideal S_ .f32) (p : FVec Ideal S2x8x4x1024x1280 .f32) (w : FVec Ideal S8x1280x4x128 .f32) (s : Fin 8) (t : Fin 1024) (h : Fin 4) (e : Fin 128) :
    refMix l p w (ix4 s t h e) = ∑ i, (p (ix5 0 s h t i) - l ix0 * p (ix5 1 s h t i)) * w (ix4 s i h e) := by
  pointwise [refMix]
  exact Finset.sum_congr rfl fun i _ => mul_comm _ _

/-- The normalised row at a row and a lane of the result. -/
theorem out_raw (x : FVec Ideal S8x1024x4x128 .f32) (r : Fin 8192) (f : Fin 512) :
    refOut x g (ix2 r f) = rowNorm (fun e' => x (ix4 (⟨r / 1024, by omega⟩ : Fin 8) (⟨r % 1024, by omega⟩ : Fin 1024) (⟨f / 128, by omega⟩ : Fin 4) e'))
      (fun e' => g (ix2 0 e')) ⟨f % 128, by omega⟩ := by
  pointwise [refOut, rowNorm]

/-- The normalised row of one token and head. -/
theorem out_apply (x : FVec Ideal S8x1024x4x128 .f32) (s : Fin 8) (t : Fin 1024) (h : Fin 4) (e : Fin 128) (r : Fin 8192) (f : Fin 512)
    (hr : r.val = s.val * 1024 + t.val) (hf : f.val = h.val * 128 + e.val) :
    refOut x g (ix2 r f) = rowNorm (fun e' => x (ix4 s t h e')) (fun e' => g (ix2 0 e')) e := by
  have h1 : (⟨r / 1024, by omega⟩ : Fin 8) = s := Fin.ext (by change r.val / 1024 = s.val; omega)
  have h2 : (⟨r % 1024, by omega⟩ : Fin 1024) = t := Fin.ext (by change r.val % 1024 = t.val; omega)
  have h3 : (⟨f / 128, by omega⟩ : Fin 4) = h := Fin.ext (by change f.val / 128 = h.val; omega)
  have h4 : (⟨f % 128, by omega⟩ : Fin 128) = e := Fin.ext (by change f.val % 128 = e.val; omega)
  rw [out_raw, h1, h2, h3, h4]

/-- The reference's values of one sequence, head and lane, in the keys' order. -/
def refValRow (s : Fin 8) (h : Fin 4) (e : Fin 128) : Fin 256 ⊕ Fin 1024 → EReal :=
  Sum.elim (fun i => cv (ix5 s 0 i h e)) (fun i => v (ix4 s i h e))

/-- The values, numbered. -/
theorem vals_apply (s : Fin 8) (h : Fin 4) (e : Fin 128) (i : Fin 256 ⊕ Fin 1024) :
    refVals cv v (ix4 s (number i) h e) = refValRow v cv s h e i := by
  pointwise [refVals]
  rcases i with i | i
  · have hi : (number (.inl i)).val = i.val := rfl
    simp only [hi]
    rw [dif_pos i.isLt]
    rfl
  · have hi : (number (.inr i)).val = 256 + i.val := rfl
    simp only [hi]
    rw [dif_neg (by omega)]
    exact congrArg (fun l : Fin 1024 => v (ix4 s l h e)) (Fin.ext (by change 256 + i.val - 256 = i.val; omega))

/-- The reference at one token and lane: the row of differential attention over the old keys and the new ones. -/
theorem ref_apply (s : Fin 8) (t : Fin 1024) (h : Fin 4) (e : Fin 128) (r : Fin 8192) (f : Fin 512)
    (hr : r.val = s.val * 1024 + t.val) (hf : f.val = h.val * 128 + e.val) :
    ref a b c d g q k v ck cv (ix2 r f)
      = rowNorm (fun e' => mix (lam (fun i => a (ix2 0 i)) (fun i => b (ix2 0 i)) (fun i => c (ix2 0 i)) (fun i => d (ix2 0 i)))
          (score (fun d => q (ix5 s t h 0 d)) (refKeyRow k ck s h 0))
          (score (fun d => q (ix5 s t h 1 d)) (refKeyRow k ck s h 1))
          (refValRow v cv s h e')) (fun e' => g (ix2 0 e')) e := by
  unfold ref
  rw [out_apply g _ s t h e r f hr hf]
  refine congrArg (fun o => rowNorm o _ e) (funext fun e' => ?_)
  rw [mix_apply, lam_apply]
  have h0 := fun p => funext (scores_apply q k ck p s h t)
  have hv := funext (vals_apply v cv s h e')
  simp only [← h0, ← hv, prob_apply]
  exact (mix_equiv number _ _ _ _).symm

end Attn

end
-- ==== Proof.Attn.Array.lean ====
/-
  The attention call's result array after the run: the reference's result of the same arguments, where the queries and
  the keys are real numbers.
-/
module

public import proofs.«01_k».proof.Proof.Gen.KernelIdeal.Value
public import proofs.«01_k».proof.Proof.Attn.Block
public import proofs.«01_k».proof.Proof.Attn.Blocks
public import proofs.«01_k».proof.Proof.Attn.Ref

@[expose] public section

set_option maxRecDepth 16384

noncomputable section

namespace Attn

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The reference's result of the kernel's arguments. -/
def goal : FVec Ideal S8192x512 .bf16 :=
  ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))

/-- An array of real numbers. -/
def Real {s : Shape} {φ : FTy} (x : FVec Ideal s φ) : Prop := ∀ i, ∃ r : ℝ, (x i : EReal) = r

variable (hq : Real (s := S8x1024x4x2x64) (φ := .f32) (m ((c.tc : Thread nD τ).loc main_arg5)))
  (hk : Real (s := S8x1024x4x2x64) (φ := .f32) (m ((c.tc : Thread nD τ).loc main_arg6)))
  (hc : Real (s := S8x1x256x4x128) (φ := .f32) (m ((c.tc : Thread nD τ).loc main_arg8)))

include hq hk hc

/-- The tile that a point stores, at row `r` and lane `e`. -/
theorem point (t : Fin cfg0.N) (r : Fin 256) (e : Fin 128) (f : Fin 8192) (l : Fin 512)
    (hf : f.val = ((seqOf t).val * 4 + (tileOf t).val) * 256 + r.val) (hl : l.val = (headOf t).val * 128 + e.val) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r e)
      = goal m c (ix2 f l) := by
  have hb5 : ∀ i : S256x128.Idx, ∃ r : ℝ, @Eq EReal (iblk m c 5 t i) r := fun i => by
    idx_vars i
    rw [blk5 m c t i0 (⟨i1 / 64, by omega⟩ : Fin 2) (⟨i1 % 64, by omega⟩ : Fin 64) (⟨(tileOf t).val * 256 + i0, by have := (tileOf t).isLt; omega⟩ : Fin 1024) i1 (by change i1.val = 64 * (i1.val / 64) + i1.val % 64; omega) rfl]
    exact hq _
  have hb6 : ∀ i : S1024x128.Idx, ∃ r : ℝ, @Eq EReal (iblk m c 6 t i) r := fun i => by
    idx_vars i
    rw [blk6 m c t i0 (⟨i1 / 64, by omega⟩ : Fin 2) (⟨i1 % 64, by omega⟩ : Fin 64) i1 (by change i1.val = 64 * (i1.val / 64) + i1.val % 64; omega)]
    exact hk _
  have hb8 : ∀ i : S256x128.Idx, ∃ r : ℝ, @Eq EReal (iblk m c 8 t i) r := fun i => by
    idx_vars i
    rw [blk8 m c t i0 i1]
    exact hc _
  have hs := (seqOf t).isLt
  have hj := (tileOf t).isLt
  rw [block_apply _ _ _ _ _ _ _ _ _ _ hb5 hb6 hb8 r e]
  unfold goal
  rw [ref_apply _ _ _ _ _ _ _ _ _ _ (seqOf t) (⟨(tileOf t).val * 256 + r.val, by omega⟩ : Fin 1024) (headOf t) e f l (by change f.val = (seqOf t).val * 1024 + ((tileOf t).val * 256 + r.val); omega) hl]
  simp only [blk0, blk1, blk2, blk3, blk4]
  have e1 : keys₁ (iblk m c 6 t) (iblk m c 8 t) = refKeyRow (m ((c.tc : Thread nD τ).loc main_arg6)) (m ((c.tc : Thread nD τ).loc main_arg8)) (seqOf t) (headOf t) 0 := by
    funext k d
    rcases k with k | k
    · exact blk8 m c t k _ |>.trans (congrArg (fun l : Fin 128 => m ((c.tc : Thread nD τ).loc main_arg8) (ix5 (seqOf t) 0 k (headOf t) l)) (Fin.ext (by change d.val = 64 * 0 + d.val; omega)))
    · exact blk6 m c t k 0 d _ (by change d.val = 64 * 0 + d.val; omega)
  have e2 : keys₂ (iblk m c 6 t) (iblk m c 8 t) = refKeyRow (m ((c.tc : Thread nD τ).loc main_arg6)) (m ((c.tc : Thread nD τ).loc main_arg8)) (seqOf t) (headOf t) 1 := by
    funext k d
    rcases k with k | k
    · exact blk8 m c t k _
    · exact blk6 m c t k 1 d _ rfl
  have e3 : ∀ e', vals (iblk m c 7 t) (iblk m c 9 t) e' = refValRow (m ((c.tc : Thread nD τ).loc main_arg7)) (m ((c.tc : Thread nD τ).loc main_arg9)) (seqOf t) (headOf t) e' := fun e' => by
    funext k
    rcases k with k | k
    · exact blk9 m c t k e'
    · exact blk7 m c t k e'
  rw [e1, e2]
  simp only [e3]
  have q0 : ∀ d : Fin 64, iblk m c 5 t (ix2 r (⟨d, by omega⟩ : Fin 128)) = _ := fun d =>
    blk5 m c t r 0 d (⟨(tileOf t).val * 256 + r.val, by omega⟩ : Fin 1024) _ (by change d.val = 64 * 0 + d.val; omega) rfl
  have q1 : ∀ d : Fin 64, iblk m c 5 t (ix2 r (⟨64 + d, by omega⟩ : Fin 128)) = _ := fun d =>
    blk5 m c t r 1 d (⟨(tileOf t).val * 256 + r.val, by omega⟩ : Fin 1024) _ rfl rfl
  simp only [q0, q1]

/-- The result array after the run. -/
theorem array : (dats m 0 c).arrAt 10 cfg0.N = goal m c := by
  refine (dats m 0 c).arrAt_eq_of_covers 10 _ (by decide +kernel) fun t hf y => ?_
  blk_simp
  rw [after0_10]
  idx_vars y
  exact (point m c hq hk hc t y0 y1 _ _ (emb_row t (ix2 y0 y1)) (emb_lane t (ix2 y0 y1))).trans (congrArg _ (eq_ix2 _).symm)

end Attn

end
-- ==== Proof.Attn.Pre.lean ====
/-
  What the precondition `finite_scores` says: each element of the queries, of the new keys and of the old keys is a
  real number.
-/
module

public import proofs.«01_k».proof.Pre_finite_scores
public import Idealize.ShloMosaic.Lib.ReduceAll
public import Idealize.ShloMosaic.PureOps.Ideal

@[expose] public section

noncomputable section

namespace Attn

open Idealize.ShloMosaic

/-- The word of +∞. -/
theorem pos_inf : Ideal.ofBits FTy.f32 2139095040#32 = ⊤ := by
  rw [Ideal.ofBits]
  simp [Ideal.ieee]

/-- An extended real whose absolute value is less than +∞ is a real number. -/
theorem real_of_abs_lt {x : EReal} (h : Ideal.cmp .olt (max x (-x)) ⊤ = 1#1) : ∃ r : ℝ, x = r := by
  induction x using EReal.rec with
  | coe r => exact ⟨r, rfl⟩
  | bot => simp [Ideal.cmp] at h
  | top => simp [Ideal.cmp] at h

/-- An array whose finiteness test holds everywhere holds real numbers. -/
theorem real_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32))) (constantI ⟨0, ![]⟩ 1 1#1) hr hu j = 1#1)
    (i : s.Idx) : ∃ r : ℝ, @Eq EReal (x i) r := by
  haveI : Subsingleton (⟨0, ![]⟩ : Shape).Idx := ⟨fun a b => funext fun k => k.elim0⟩
  have h := Host.reduce_andi_all _ _ hr hu j e i
  refine real_of_abs_lt ?_
  rw [← pos_inf]
  exact h

variable [Cert.Pre_finite_scores.Facts]

/-- The three arrays of the precondition. -/
theorem real_of_pre (a b c d : FVec Ideal ⟨2, ![1, 64]⟩ .f32) (g : FVec Ideal ⟨2, ![1, 128]⟩ .f32) (q k : FVec Ideal ⟨5, ![8, 1024, 4, 2, 64]⟩ .f32)
    (v : FVec Ideal ⟨4, ![8, 1024, 4, 128]⟩ .f32) (ck cv : FVec Ideal ⟨5, ![8, 1, 256, 4, 128]⟩ .f32)
    (h : Cert.Pre_finite_scores.fn a b c d g q k v ck cv = fun _ => 1#1) :
    (∀ i, ∃ r : ℝ, @Eq EReal (q i) r) ∧ (∀ i, ∃ r : ℝ, @Eq EReal (k i) r) ∧ (∀ i, ∃ r : ℝ, @Eq EReal (ck i) r) := by
  have h := congrFun h (fun k => k.elim0)
  obtain ⟨h1, h2⟩ := IntOp.andi_eq_one.1 h
  obtain ⟨h3, h4⟩ := IntOp.andi_eq_one.1 h1
  exact ⟨real_of_all q _ _ _ _ h3, real_of_all k _ _ _ _ h4, real_of_all ck _ _ _ _ h2⟩

end Attn

end
-- ==== Proof.Merge.Math.lean ====
/-
  The mathematics of one token of the merge, over the extended reals: the residual stream with the gated output
  projection added, its normalisation with scale and shift, and the scores of its queries against a head's sub-keys;
  and the collapse of a product with one head's rows of a block diagonal array.
-/
module

public import Idealize.ShloMosaic.Lib.Pointwise

@[expose] public section

noncomputable section

namespace Merge

open Idealize.ShloMosaic

/-- One entry of the residual stream: the old one, plus the gate times the output projection of the attention's and the
    Fourier mixing's halves. -/
def resid (x g : EReal) (a f wa wf : Fin 512 → EReal) : EReal := x + g * (∑ i, a i * wa i + ∑ i, f i * wf i)

/-- The root-mean-square normalisation of the row `x` with gain `g`, scaled by `1 + sc` and shifted by `sh`. -/
def normed (x g sc sh : Fin 1024 → EReal) (j : Fin 1024) : EReal :=
  x j * Ideal.rsqrt (Ideal.div (∑ i, x i * x i) (Ideal.ofBits FTy.f32 1149239296#32) + Ideal.ofBits FTy.f32 897988541#32) * g j
    * (1 + sc j) + sh j

/-- The score of a token's query (the row `h` under the columns `w`) against the key `k`. -/
def score (h : Fin 1024 → EReal) (w : Fin 1024 → Fin 128 → EReal) (k : Fin 128 → EReal) : EReal :=
  ∑ d, k d * ∑ i, h i * w i d

/-- A sum over 1024 lanes is a sum over eight heads of 128 lanes. -/
theorem sum_heads (F : Fin 1024 → EReal) : ∑ l, F l = ∑ g : Fin 8, ∑ d : Fin 128, F ⟨g.val * 128 + d.val, by omega⟩ := by
  rw [← Equiv.sum_comp (finProdFinEquiv (m := 8) (n := 128)) F, Fintype.sum_prod_type]
  refine Finset.sum_congr rfl fun g _ => Finset.sum_congr rfl fun d _ => congrArg F (Fin.ext ?_)
  change d.val + 128 * g.val = g.val * 128 + d.val
  omega

/-- A product with the lanes of all heads, of a row that is zero outside the head `h`, is the product with that
    head's lanes alone. -/
theorem sum_one_head (h : Fin 8) (K F : Fin 1024 → EReal) (k : Fin 128 → EReal)
    (hK : ∀ (g : Fin 8) (d : Fin 128), K ⟨g.val * 128 + d.val, by omega⟩ = if g = h then k d else 0) :
    ∑ l, K l * F l = ∑ d : Fin 128, k d * F ⟨h.val * 128 + d.val, by omega⟩ := by
  rw [sum_heads, Finset.sum_eq_single h]
  · exact Finset.sum_congr rfl fun d _ => by rw [hK h d, if_pos rfl]
  · intro g _ hg
    exact Finset.sum_eq_zero fun d _ => by rw [hK g d, if_neg hg, zero_mul]
  · exact fun hn => absurd (Finset.mem_univ h) hn

end Merge

end
-- ==== Proof.Merge.Block.lean ====
/-
  What the merge kernel stores at one grid point, from the blocks that the point reads: 256 tokens' new residual rows,
  their normalised rows transposed, and their queries' products with the packed sub-keys.
-/
module

public import proofs.«01_k».proof.Proof.Gen.MergeIdeal.Frame
public import proofs.«01_k».proof.Proof.Merge.Math
public import Idealize.ShloMosaic.Lib.Pipeline.ValueKit

@[expose] public section

set_option maxRecDepth 16384

noncomputable section

namespace Merge

open Idealize.ShloMosaic Idealize.ShloMosaic.TcCoe Idealize.SL.Sem
open Cert.MergeIdeal Cert.MergeIdeal.Gen

variable (x0 x1 : Vec Ideal S256x512 .bf16) (x2 : Vec Ideal S256x1024 .f32) (x3 : Vec Ideal S1x6x1024 .f32)
  (x4 : Vec Ideal S1x1024 .f32) (x5 : Vec Ideal S1024x1024 .bf16) (x6 : Vec Ideal S1024x2048 .bf16)
  (x7 : Vec Ideal S2x1024x1024 .bf16) (x8 : Vec Ideal S1024x1024 .bf16)

/-- The residual row of the point's token `r`. -/
def rowX (r : Fin 256) (j : Fin 1024) : EReal :=
  resid (x2 (ix2 r j)) (x3 (ix3 0 2 j)) (fun i => x0 (ix2 r i)) (fun i => x1 (ix2 r i))
    (fun i => x5 (ix2 (⟨i.val, by omega⟩ : Fin 1024) j)) (fun i => x5 (ix2 (⟨512 + i.val, by omega⟩ : Fin 1024) j))

/-- The normalised row of the point's token `r`. -/
def rowH (r : Fin 256) : Fin 1024 → EReal :=
  normed (rowX x0 x1 x2 x3 x5 r) (fun j => x4 (ix2 0 j)) (fun j => x3 (ix3 0 4 j)) (fun j => x3 (ix3 0 3 j))

/-- The residual payload at a row and a lane. -/
theorem pay2_apply (r : Fin 256) (j : Fin 1024) :
    k0_pay2 x0 (View.ld x5 r0_1) x1 (View.ld x5 r0_2) x2 (View.ld x3 r0_4) (ix2 r j) = rowX x0 x1 x2 x3 x5 r j := by
  pointwise [k0_pay2]
  rfl

/-- The normalised payload at a row and a lane. -/
theorem pay5_apply (r : Fin 256) (j : Fin 1024) :
    k0_pay5 (k0_pay3 x0 (View.ld x5 r0_1) x1 (View.ld x5 r0_2) x2 (View.ld x3 r0_4) x4) (k0_pay4 (View.ld x3 r0_6)) (View.ld x3 r0_7) (ix2 r j)
      = rowH x0 x1 x2 x3 x4 x5 r j := by
  pointwise [k0_pay5, k0_pay3, k0_pay4]
  simp only [pay2_apply]
  rfl

theorem out9 (r : Fin 256) (j : Fin 1024) : out0_9 x0 x1 x2 x3 x4 x5 x6 x7 x8 (ix2 r j) = rowX x0 x1 x2 x3 x5 r j := by
  unfold_out out0_9
  frame_out
  exact pay2_apply x0 x1 x2 x3 x5 r j

theorem out10 (r : Fin 256) (j : Fin 1024) : out0_10 x0 x1 x2 x3 x4 x5 x6 x7 x8 (ix2 j r) = rowH x0 x1 x2 x3 x4 x5 r j := by
  unfold_out out0_10
  frame_out
  pointwise [k0_pay6]
  exact pay5_apply x0 x1 x2 x3 x4 x5 r j

/-- The scores' window at its row 1 is the second store's rectangle, -/
theorem row1_emb (n : Fin 1024) (r : Fin 256) : (ix3 1 n r : S2x1024x256.Idx) = r0_13.emb (ix3 0 n r) := by
  funext a
  fin_cases a
  · exact Fin.ext rfl
  · exact Fin.ext (by change n.val = 0 + 1 * n.val; omega)
  · exact Fin.ext (by change r.val = 0 + 1 * r.val; omega)

/-- at its row 0 the first store's, -/
theorem row0_emb (n : Fin 1024) (r : Fin 256) : (ix3 0 n r : S2x1024x256.Idx) = r0_11.emb (ix3 0 n r) := by
  funext a
  fin_cases a
  · exact Fin.ext rfl
  · exact Fin.ext (by change n.val = 0 + 1 * n.val; omega)
  · exact Fin.ext (by change r.val = 0 + 1 * r.val; omega)

/-- and row 0 lies off the second store. -/
theorem not_mem_row1 (n : Fin 1024) (r : Fin 256) : (ix3 0 n r : S2x1024x256.Idx) ∉ r0_13.set := by
  intro hm
  obtain ⟨i, hi, he⟩ := (LoadRect.mem_set _).mp hm (0 : Fin 3)
  have he' : 0 = 1 + 1 * i := he
  omega

/-- The two stores read at row 0: the first one's payload. -/
theorem canon_row0 (p : r0_13.shape.Idx → EReal) (q : r0_11.shape.Idx → EReal) (n : Fin 1024) (r : Fin 256) :
    View.canon (Val := Elt Ideal) (s := S2x1024x256) (e := .f32) [⟨r0_13, p⟩, ⟨r0_11, q⟩] (ix3 0 n r) = q (ix3 0 n r) := by
  refine (View.canon_cons_of_not_mem (⟨r0_13, p⟩ : View.Piece (Elt Ideal) S2x1024x256 .f32) [⟨r0_11, q⟩] (not_mem_row1 n r)).trans ?_
  have h := View.canon_cons_emb (Val := Elt Ideal) (s := S2x1024x256) (e := .f32) r0_11 q [] (ix3 0 n r)
  rw [← row0_emb n r] at h
  exact h

/-- The first part's scores: the window's row 0, which the body writes before row 1. -/
theorem out11_0 (n : Fin 1024) (r : Fin 256) : out0_11 x0 x1 x2 x3 x4 x5 x6 x7 x8 (ix3 0 n r)
    = ∑ l : Fin 1024, x7 (ix3 0 n l) * ∑ i, rowH x0 x1 x2 x3 x4 x5 r i * x6 (ix2 i (⟨l.val, by omega⟩ : Fin 2048)) := by
  unfold_out out0_11
  frame_out
  refine (canon_row0 _ _ n r).trans ?_
  pointwise [k0_pay8, k0_pay7]
  simp only [pay5_apply]

/-- The second part's scores. -/
theorem out11_1 (n : Fin 1024) (r : Fin 256) : out0_11 x0 x1 x2 x3 x4 x5 x6 x7 x8 (ix3 1 n r)
    = ∑ l : Fin 1024, x7 (ix3 1 n l) * ∑ i, rowH x0 x1 x2 x3 x4 x5 r i * x6 (ix2 i (⟨1024 + l.val, by omega⟩ : Fin 2048)) := by
  unfold_out out0_11
  frame_out
  rw [row1_emb n r, View.canon_cons_emb]
  pointwise [k0_pay9, k0_pay7]
  simp only [pay5_apply]

/-- The second part's scores once more, the keys' rows head by head. -/
theorem out12 (n : Fin 1024) (r : Fin 256) : out0_12 x0 x1 x2 x3 x4 x5 x6 x7 x8 (ix2 n r)
    = ∑ l : Fin 1024, x8 (ix2 n l) * ∑ i, rowH x0 x1 x2 x3 x4 x5 r i * x6 (ix2 i (⟨1024 + l.val, by omega⟩ : Fin 2048)) := by
  unfold_out out0_12
  frame_out
  pointwise [k0_pay1, k0_pay10, k0_pay7]
  simp only [pay5_apply]

end Merge

end
-- ==== Proof.Merge.Blocks.lean ====
/-
  The blocks that one grid point of the merge reads, in terms of the arguments as launched: 256 tokens of one sequence,
  that sequence's modulation, and the weights whole, as the host code packs them.
-/
module

public import proofs.«01_k».proof.Proof.Gen.MergeIdeal.Frame
public import Idealize.ShloMosaic.Lib.Pointwise
public import Idealize.ShloMosaic.Lib.Pipeline.ValueKit

@[expose] public section

set_option maxRecDepth 16384

noncomputable section

namespace Merge

open Idealize.ShloMosaic Idealize.ShloMosaic.TcCoe Idealize.SL.Sem
open Cert.MergeIdeal Cert.MergeIdeal.Gen

/-- The grid point's number. -/
def pt (t : Fin cfg0.N) : Fin 32 := grid0.coords t 0

/-- The sequence of a grid point: four points to each. -/
def seqOf (t : Fin cfg0.N) : Fin 8 := ⟨(pt t).val / 4, by have := (pt t).isLt; omega⟩

/-- The windows' block indices at a point. -/
theorem idx (t : Fin cfg0.N) :
    win0_0.index t = ![(pt t).val, 0] ∧ win0_1.index t = ![(pt t).val, 0] ∧ win0_2.index t = ![(pt t).val, 0]
    ∧ win0_3.index t = ![1 + (seqOf t).val, 0, 0] ∧ win0_4.index t = ![0, 0] ∧ win0_5.index t = ![0, 0]
    ∧ win0_6.index t = ![0, 0] ∧ win0_7.index t = ![0, 0, 0] ∧ win0_8.index t = ![0, 0]
    ∧ win0_9.index t = ![(pt t).val, 0] ∧ win0_10.index t = ![0, (pt t).val] ∧ win0_11.index t = ![0, 0, (pt t).val]
    ∧ win0_12.index t = ![0, (pt t).val] := by
  revert t
  decide +kernel

variable (m : (ℓ : Loc nD τ sig) → Buf (Elt Ideal) ℓ) (c : Dev nD) (t : Fin cfg0.N)

theorem blk0 (r : Fin 256) (i : Fin 512) (f : Fin 8192) (hf : f.val = (pt t).val * 256 + r.val) :
    iblk m c 0 t (ix2 r i) = m ((c.tc : Thread nD τ).loc main_arg0) (ix2 f i) := by
  blk_ext! [iblk, V, idx t]

theorem blk1 (r : Fin 256) (i : Fin 512) (f : Fin 8192) (hf : f.val = (pt t).val * 256 + r.val) :
    iblk m c 1 t (ix2 r i) = m ((c.tc : Thread nD τ).loc main_arg1) (ix2 f i) := by
  blk_ext! [iblk, V, idx t]

theorem blk2 (r : Fin 256) (i : Fin 1024) (q : Fin 1024) (s : Fin 8) (hs : s = seqOf t) (hq : s.val * 1024 + q.val = (pt t).val * 256 + r.val) :
    iblk m c 2 t (ix2 r i) = m ((c.tc : Thread nD τ).loc main_arg2) (ix3 s q i) := by
  blk_ext! [iblk, V, idx t]

theorem blk3 (k : Fin 6) (i : Fin 1024) (s : Fin 16) (hs : s.val = 1 + (seqOf t).val) (l : Fin 6144) (hl : l.val = k.val * 1024 + i.val) :
    iblk m c 3 t (ix3 0 k i) = m ((c.tc : Thread nD τ).loc main_arg3) (ix2 s l) := by
  blk_ext! [iblk, V, idx t]

theorem blk4 (i : Fin 1024) : iblk m c 4 t (ix2 0 i) = m ((c.tc : Thread nD τ).loc main_arg4) (ix2 0 i) := by
  blk_ext! [iblk, V, idx t]

theorem blk5 (i j : Fin 1024) : iblk m c 5 t (ix2 i j) = m ((c.tc : Thread nD τ).loc main_arg5) (ix3 0 i j) := by
  blk_ext! [iblk, V, idx t]

/-- The query weights, both parts' columns gathered. -/
theorem blk6 (i : Fin 1024) (p : Fin 2) (h : Fin 8) (d : Fin 128) (l l' : Fin 2048) (hl : l.val = p.val * 1024 + h.val * 128 + d.val)
    (hl' : l'.val = h.val * 256 + p.val * 128 + d.val) :
    iblk m c 6 t (ix2 i l) = m ((c.tc : Thread nD τ).loc main_arg6) (ix3 0 i l') := by
  have h1 : l.val / 1024 = p.val := by omega
  have h2 : l.val / 128 % 8 = h.val := by omega
  have h3 : l.val % 128 = d.val := by omega
  blk_ext! [iblk, V, idx t]

/-- An entry of the unit matrix, as the host code computes it. -/
def eye (h g : ℕ) : EReal :=
  FloatOps.uitofp (F := Ideal) FTy.f32 (IntOp.cmpi CmpIPredicate.eq (IntOp.addi (BitVec.ofNat 32 h) 0#32) (BitVec.ofNat 32 g))

theorem eye_eq (h g : Fin 8) : eye h.val g.val = if g = h then 1 else 0 := by
  have e : IntOp.cmpi CmpIPredicate.eq (IntOp.addi (BitVec.ofNat 32 h.val) 0#32) (BitVec.ofNat 32 g.val) = if g = h then 1#1 else 0#1 := by
    revert h g
    decide
  unfold eye
  rw [e]
  split
  · change ((1 : ℕ) : EReal) = 1
    norm_num
  · change ((0 : ℕ) : EReal) = 0
    norm_num

/-- The packed keys of both parts, as the host code leaves them. -/
theorem host7 (p : Fin 2) (n l : Fin 1024) (h : Fin 8) (k d : Fin 128) (hh : n.val % 8 = h.val) (hk : n.val / 8 = k.val) (hd : l.val % 128 = d.val) :
    @Eq EReal (V m c main_v34 (ix3 p n l))
      (@HMul.hMul EReal EReal EReal _ (m ((c.tc : Thread nD τ).loc main_arg7) (ix5 0 h p k d)) (eye (n.val % 8) (l.val / 128))) := by
  unfold eye
  entry_read
  pointwise
  refine congrArg₂ (fun x y : EReal => x * y) ?_ rfl
  blk_ext

/-- The packed keys of the second part, as the host code leaves them. -/
theorem host8 (n l : Fin 1024) (h : Fin 8) (k d : Fin 128) (hh : n.val / 128 = h.val) (hk : n.val % 128 = k.val) (hd : l.val % 128 = d.val) :
    @Eq EReal (V m c main_v35 (ix2 n l))
      (@HMul.hMul EReal EReal EReal _ (m ((c.tc : Thread nD τ).loc main_arg7) (ix5 0 h 1 k d)) (eye (n.val / 128) (l.val / 128))) := by
  unfold eye
  entry_read
  pointwise
  refine congrArg₂ (fun x y : EReal => x * y) ?_ rfl
  blk_ext

/-- The packed keys of both parts: row `8 k + h` holds key `k` of head `h` at that head's lanes, zero elsewhere. -/
theorem blk7 (p : Fin 2) (k : Fin 128) (h g : Fin 8) (d : Fin 128) (n l : Fin 1024) (hn : n.val = k.val * 8 + h.val) (hl : l.val = g.val * 128 + d.val) :
    @Eq EReal (iblk m c 7 t (ix3 p n l)) (@HMul.hMul EReal EReal EReal _ (m ((c.tc : Thread nD τ).loc main_arg7) (ix5 0 h p k d)) (eye h.val g.val)) := by
  have h2 : n.val % 8 = h.val := by omega
  have h3 : l.val / 128 = g.val := by omega
  have he : ((cfg0.win 7).blk t).view.emb (ix3 p n l) = (ix3 p n l : S2x1024x1024.Idx) := by blk_ext [idx t]
  have hb := host7 m c p n l h k d h2 (by omega) (by omega)
  rw [h2, h3] at hb
  exact (congrArg (V m c main_v34) he).trans hb

/-- The packed keys of the second part: row `128 h + k` holds key `k` of head `h` at that head's lanes, zero elsewhere. -/
theorem blk8 (k : Fin 128) (h g : Fin 8) (d : Fin 128) (n l : Fin 1024) (hn : n.val = h.val * 128 + k.val) (hl : l.val = g.val * 128 + d.val) :
    @Eq EReal (iblk m c 8 t (ix2 n l)) (@HMul.hMul EReal EReal EReal _ (m ((c.tc : Thread nD τ).loc main_arg7) (ix5 0 h 1 k d)) (eye h.val g.val)) := by
  have h1 : n.val / 128 = h.val := by omega
  have h3 : l.val / 128 = g.val := by omega
  have he : ((cfg0.win 8).blk t).view.emb (ix2 n l) = (ix2 n l : S1024x1024.Idx) := by blk_ext [idx t]
  have hb := host8 m c n l h k d h1 (by omega) (by omega)
  rw [h1, h3] at hb
  exact (congrArg (V m c main_v35) he).trans hb

/-- Where the stored blocks lie in the results. -/
theorem emb9 (y : S256x1024.Idx) : ((((cfg0.win 9).blk t).view.emb y) 0 : ℕ) = (pt t).val * 256 + (y 0).val
    ∧ ((((cfg0.win 9).blk t).view.emb y) 1 : ℕ) = (y 1).val := by
  constructor <;> blk_simp [idx t]

theorem emb10 (y : S1024x256.Idx) : ((((cfg0.win 10).blk t).view.emb y) 0 : ℕ) = (y 0).val
    ∧ ((((cfg0.win 10).blk t).view.emb y) 1 : ℕ) = (pt t).val * 256 + (y 1).val := by
  constructor <;> blk_simp [idx t]

theorem emb11 (y : S2x1024x256.Idx) : ((((cfg0.win 11).blk t).view.emb y) 0 : ℕ) = (y 0).val
    ∧ ((((cfg0.win 11).blk t).view.emb y) 1 : ℕ) = (y 1).val
    ∧ ((((cfg0.win 11).blk t).view.emb y) 2 : ℕ) = (pt t).val * 256 + (y 2).val := by
  refine ⟨?_, ?_, ?_⟩ <;> blk_simp [idx t]

theorem emb12 (y : S1024x256.Idx) : ((((cfg0.win 12).blk t).view.emb y) 0 : ℕ) = (y 0).val
    ∧ ((((cfg0.win 12).blk t).view.emb y) 1 : ℕ) = (pt t).val * 256 + (y 1).val := by
  constructor <;> blk_simp [idx t]

end Merge

end
-- ==== Proof.Merge.Ref.lean ====
/-
  What the reference of the merge computes, token by token (Proof/Merge/Math.lean).
-/
module

public import proofs.«01_k».proof.Proof.Gen.MergeReferenceIdeal.Run
public import proofs.«01_k».proof.Proof.Merge.Math

@[expose] public section

set_option maxRecDepth 16384

noncomputable section

namespace Merge

open Idealize.ShloMosaic Idealize.ShloMosaic.TcCoe Idealize.SL.Sem
open Cert.MergeReferenceIdeal Cert.MergeReferenceIdeal.Gen

/-- Six rows per sequence: the modulation of the latent sequences, all six parts on one axis. -/
def refMod (md : FVec Ideal S16x6144 .f32) : FVec Ideal S8x1x6144 .f32 :=
  broadcastInDim S8x1x6144 ![0, 2] bcast_S8x6144_S8x1x6144_0_2 (extractStridedSlice S8x6144 ![1, 0] md slices_S16x6144_S8x6144_1_0)

/-- The residual stream after the gated output projection. -/
def refX (a f : FVec Ideal S8192x512 .bf16) (x : FVec Ideal S8x1024x1024 .f32) (md : FVec Ideal S16x6144 .f32)
    (w : FVec Ideal S1x1024x1024 .f32) : FVec Ideal S8x1024x1024 .f32 :=
  addf x (mulf (broadcastInDim S8x1024x1024 ![0, 1, 2] bcast_S8x1x1024_S8x1024x1024_0_1_2 (extractStridedSlice S8x1x1024 ![0, 0, 2048] (refMod md) slices_S8x1x6144_S8x1x1024_0_0_2048)) (Host.dotGeneral dot_S8x1024x1024_S1024x1024_S8x1024x1024_2_0_01_1_n_n none (extf .f32 (concatenate S8x1024x1024 2 [⟨S8x1024x512, (shapeCast _ a shapeCasts_S8192x512_S8x1024x512)⟩, ⟨S8x1024x512, (shapeCast _ f shapeCasts_S8192x512_S8x1024x512)⟩] concatenates_S8x1024x512_S8x1024x512_S8x1024x1024_d2) bitsLt_bf16_f32) (shapeCast _ w shapeCasts_S1x1024x1024_S1024x1024)))

/-- The normalised stream, scaled and shifted. -/
def refH (x : FVec Ideal S8x1024x1024 .f32) (md : FVec Ideal S16x6144 .f32) (g : FVec Ideal S1x1024 .f32) : FVec Ideal S8x1024x1024 .f32 :=
  addf (mulf (mulf (mulf x (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf x x) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ g shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 0, 4096] (refMod md) slices_S8x1x6144_S8x1x1024_0_0_4096)))) (broadcastInDim S8x1024x1024 ![0, 1, 2] bcast_S8x1x1024_S8x1024x1024_0_1_2 (extractStridedSlice S8x1x1024 ![0, 0, 3072] (refMod md) slices_S8x1x6144_S8x1x1024_0_0_3072))

/-- The queries: both parts of all eight heads. -/
def refQ (h : FVec Ideal S8x1024x1024 .f32) (w : FVec Ideal S1x1024x2048 .f32) : FVec Ideal S8192x8x2x128 .f32 :=
  shapeCast _ (Host.dotGeneral dot_S8192x1024_S1024x2048_S8192x2048_1_0_0_1_n_n none (shapeCast _ h shapeCasts_S8x1024x1024_S8192x1024) (shapeCast _ w shapeCasts_S1x1024x2048_S1024x2048)) shapeCasts_S8192x2048_S8192x8x2x128

/-- The scores: token, head, part, key. -/
def refS (q : FVec Ideal S8192x8x2x128 .f32) (k : FVec Ideal S1x8x2x128x128 .f32) : FVec Ideal S8192x8x2x128 .f32 :=
  transpose S8192x8x2x128 [3, 0, 1, 2] (Host.dotGeneral dot_S8x2x128x128_S8192x8x2x128_S8x2x128x8192_3_3_2_0_01_12 none (shapeCast _ k shapeCasts_S1x8x2x128x128_S8x2x128x128) q) transposes_S8x2x128x8192_S8192x8x2x128_3_0_1_2

/-- The first result. -/
def ref0 (x : FVec Ideal S8x1024x1024 .f32) : FVec Ideal S8192x1024 .f32 := shapeCast _ x shapeCasts_S8x1024x1024_S8192x1024

/-- The second result. -/
def ref1 (h : FVec Ideal S8x1024x1024 .f32) : FVec Ideal S1024x8192 .bf16 :=
  truncf .bf16 (transpose S1024x8192 [1, 0] (shapeCast _ h shapeCasts_S8x1024x1024_S8192x1024) transposes_S8192x1024_S1024x8192_1_0) bitsLt_bf16_f32

/-- The third result. -/
def ref2 (s : FVec Ideal S8192x8x2x128 .f32) : FVec Ideal S2x1024x8192 .f32 :=
  shapeCast _ (transpose S2x128x8x8192 [2, 3, 1, 0] s transposes_S8192x8x2x128_S2x128x8x8192_2_3_1_0) shapeCasts_S2x128x8x8192_S2x1024x8192

/-- The fourth result. -/
def ref3 (s : FVec Ideal S8192x8x2x128 .f32) : FVec Ideal S1024x8192 .f32 :=
  shapeCast _ (transpose S8x128x8192 [1, 2, 0] (shapeCast _ (extractStridedSlice S8192x8x1x128 ![0, 0, 1, 0] s slices_S8192x8x2x128_S8192x8x1x128_0_0_1_0) shapeCasts_S8192x8x1x128_S8192x8x128) transposes_S8192x8x128_S8x128x8192_1_2_0) shapeCasts_S8x128x8192_S1024x8192

section names
variable (m : (ℓ : Loc nD τ sig) → Buf (Elt Ideal) ℓ) (c : Dev nD)

/-- The residual stream of the launch's arguments. -/
def argX : FVec Ideal S8x1024x1024 .f32 := refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

theorem res1_eq : Value.res_out1 m c = ref1 (refH (argX m c) (m ((c.tc : Thread nD τ).loc main_arg3)) (m ((c.tc : Thread nD τ).loc main_arg4))) := rfl

theorem res2_eq : Value.res_out2 m c = ref2 (refS (refQ (refH (argX m c) (m ((c.tc : Thread nD τ).loc main_arg3)) (m ((c.tc : Thread nD τ).loc main_arg4))) (m ((c.tc : Thread nD τ).loc main_arg6))) (m ((c.tc : Thread nD τ).loc main_arg7))) := rfl

theorem res3_eq : Value.res_out3 m c = ref3 (refS (refQ (refH (argX m c) (m ((c.tc : Thread nD τ).loc main_arg3)) (m ((c.tc : Thread nD τ).loc main_arg4))) (m ((c.tc : Thread nD τ).loc main_arg6))) (m ((c.tc : Thread nD τ).loc main_arg7))) := rfl

end names

variable (a f : FVec Ideal S8192x512 .bf16) (x : FVec Ideal S8x1024x1024 .f32) (md : FVec Ideal S16x6144 .f32)
  (g : FVec Ideal S1x1024 .f32) (w : FVec Ideal S1x1024x1024 .f32) (wq : FVec Ideal S1x1024x2048 .f32) (ks : FVec Ideal S1x8x2x128x128 .f32)

/-- The modulation's row of a latent sequence. -/
abbrev seqRow (s : Fin 8) : Fin 16 := ⟨1 + s.val, by omega⟩

/-- A token's place among all sequences' tokens. -/
abbrev flatRow (s : Fin 8) (t : Fin 1024) : Fin 8192 := ⟨s.val * 1024 + t.val, by omega⟩

/-- The reference's residual row of one token. -/
def refRowX (s : Fin 8) (t : Fin 1024) (r : Fin 8192) (j : Fin 1024) : EReal :=
  resid (x (ix3 s t j)) (md (ix2 (seqRow s) (⟨2048 + j.val, by omega⟩ : Fin 6144))) (fun i => a (ix2 r i)) (fun i => f (ix2 r i))
    (fun i => w (ix3 0 (⟨i.val, by omega⟩ : Fin 1024) j)) (fun i => w (ix3 0 (⟨512 + i.val, by omega⟩ : Fin 1024) j))

/-- The reference's normalised row of one token. -/
def refRowH (row : Fin 1024 → EReal) (s : Fin 8) : Fin 1024 → EReal :=
  normed row (fun j => g (ix2 0 j)) (fun j => md (ix2 (seqRow s) (⟨4096 + j.val, by omega⟩ : Fin 6144)))
    (fun j => md (ix2 (seqRow s) (⟨3072 + j.val, by omega⟩ : Fin 6144)))

theorem refX_apply (s : Fin 8) (t : Fin 1024) (j : Fin 1024) (r : Fin 8192) (hr : r.val = s.val * 1024 + t.val) :
    refX a f x md w (ix3 s t j) = refRowX a f x md w s t r j := by
  obtain rfl : r = flatRow s t := Fin.ext hr
  pointwise [refX, refMod]
  rfl

theorem refH_apply (s : Fin 8) (t : Fin 1024) (j : Fin 1024) :
    refH x md g (ix3 s t j) = refRowH md g (fun j => x (ix3 s t j)) s j := by
  pointwise [refH, refMod]
  rfl

theorem refS_raw (h : FVec Ideal S8x1024x1024 .f32) (r : Fin 8192) (hd : Fin 8) (p : Fin 2) (n : Fin 128) :
    refS (refQ h wq) ks (ix4 r hd p n)
      = score (fun i => h (ix3 (⟨r.val / 1024, by omega⟩ : Fin 8) (⟨r.val % 1024, by omega⟩ : Fin 1024) i)) (fun i d => wq (ix3 0 i (⟨hd.val * 256 + p.val * 128 + d.val, by omega⟩ : Fin 2048))) (fun d => ks (ix5 0 hd p n d)) := by
  pointwise [refS, refQ]
  rfl

/-- The scores of one token's query of a head and part against a key. -/
theorem refS_apply (h : FVec Ideal S8x1024x1024 .f32) (s : Fin 8) (t : Fin 1024) (r : Fin 8192) (hr : r.val = s.val * 1024 + t.val) (hd : Fin 8) (p : Fin 2) (n : Fin 128) :
    refS (refQ h wq) ks (ix4 r hd p n)
      = score (fun i => h (ix3 s t i)) (fun i d => wq (ix3 0 i (⟨hd.val * 256 + p.val * 128 + d.val, by omega⟩ : Fin 2048))) (fun d => ks (ix5 0 hd p n d)) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  rw [refS_raw, h1, h2]

theorem ref0_apply (s : Fin 8) (t : Fin 1024) (r : Fin 8192) (hr : r.val = s.val * 1024 + t.val) (j : Fin 1024) :
    ref0 x (ix2 r j) = x (ix3 s t j) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  pointwise [ref0]
  rw [h1, h2]

theorem ref1_apply (s : Fin 8) (t : Fin 1024) (r : Fin 8192) (hr : r.val = s.val * 1024 + t.val) (j : Fin 1024) :
    ref1 x (ix2 j r) = x (ix3 s t j) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  pointwise [ref1]
  rw [h1, h2]

theorem ref2_apply (z : FVec Ideal S8192x8x2x128 .f32) (r : Fin 8192) (p : Fin 2) (hd : Fin 8) (k : Fin 128) (n : Fin 1024)
    (hn : n.val = k.val * 8 + hd.val) : ref2 z (ix3 p n r) = z (ix4 r hd p k) := by
  have h1 : (⟨n.val / 8, by omega⟩ : Fin 128) = k := Fin.ext (by change n.val / 8 = k.val; omega)
  have h2 : (⟨n.val % 8, by omega⟩ : Fin 8) = hd := Fin.ext (by change n.val % 8 = hd.val; omega)
  pointwise [ref2]
  rw [h1, h2]

theorem ref3_apply (z : FVec Ideal S8192x8x2x128 .f32) (r : Fin 8192) (hd : Fin 8) (k : Fin 128) (n : Fin 1024)
    (hn : n.val = hd.val * 128 + k.val) : ref3 z (ix2 n r) = z (ix4 r hd 1 k) := by
  have h1 : (⟨n.val % 128, by omega⟩ : Fin 128) = k := Fin.ext (by change n.val % 128 = k.val; omega)
  have h2 : (⟨n.val / 128, by omega⟩ : Fin 8) = hd := Fin.ext (by change n.val / 128 = hd.val; omega)
  pointwise [ref3]
  rw [h1, h2]

end Merge

end
-- ==== Proof.Merge.Array.lean ====
/-
  The merge call's four result arrays after the run: the reference's results of the same arguments.
-/
module

public import proofs.«01_k».proof.Proof.Gen.MergeIdeal.Value
public import proofs.«01_k».proof.Proof.Merge.Block
public import proofs.«01_k».proof.Proof.Merge.Blocks
public import proofs.«01_k».proof.Proof.Merge.Ref

@[expose] public section

set_option maxRecDepth 16384

noncomputable section

namespace Merge

open Idealize.ShloMosaic Idealize.ShloMosaic.TcCoe Idealize.SL.Sem
open Cert.MergeIdeal Cert.MergeIdeal.Gen

variable (m : (ℓ : Loc nD τ sig) → Buf (Elt Ideal) ℓ) (c : Dev nD)

/-- The reference's residual stream of the kernel's arguments, -/
def goalX : FVec Ideal S8x1024x1024 .f32 :=
  refX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))

/-- its normalised stream, -/
def goalH : FVec Ideal S8x1024x1024 .f32 := refH (goalX m c) (m ((c.tc : Thread nD τ).loc main_arg3)) (m ((c.tc : Thread nD τ).loc main_arg4))

/-- and its scores. -/
def goalS : FVec Ideal Cert.MergeReferenceIdeal.S8192x8x2x128 .f32 := refS (refQ (goalH m c) (m ((c.tc : Thread nD τ).loc main_arg6))) (m ((c.tc : Thread nD τ).loc main_arg7))

variable (t : Fin cfg0.N)

/-- The token of its sequence that a point's row `r` is. -/
def tok (r : Fin 256) : Fin 1024 := ⟨(pt t).val % 4 * 256 + r.val, by omega⟩

theorem tok_flat (r : Fin 256) (f : Fin 8192) (hf : f.val = (pt t).val * 256 + r.val) : f.val = (seqOf t).val * 1024 + (tok t r).val := by
  change f.val = (pt t).val / 4 * 1024 + ((pt t).val % 4 * 256 + r.val)
  omega

/-- The residual row that a point computes is the reference's. -/
theorem rowX_eq (r : Fin 256) (f : Fin 8192) (hf : f.val = (pt t).val * 256 + r.val) (j : Fin 1024) :
    rowX (iblk m c 0 t) (iblk m c 1 t) (iblk m c 2 t) (iblk m c 3 t) (iblk m c 5 t) r j = goalX m c (ix3 (seqOf t) (tok t r) j) := by
  unfold goalX
  rw [refX_apply _ _ _ _ _ (seqOf t) (tok t r) j f (tok_flat t r f hf)]
  have e0 : ∀ i, iblk m c 0 t (ix2 r i) = _ := fun i => blk0 m c t r i f hf
  have e1 : ∀ i, iblk m c 1 t (ix2 r i) = _ := fun i => blk1 m c t r i f hf
  have e2 := blk2 m c t r j (tok t r) (seqOf t) rfl ((tok_flat t r f hf).symm.trans hf)
  have e3 := blk3 m c t 2 j (seqRow (seqOf t)) rfl (⟨2048 + j.val, by omega⟩ : Fin 6144) rfl
  unfold rowX refRowX
  simp only [e0, e1, e2, e3, blk5]

/-- The normalised row that a point computes is the reference's. -/
theorem rowH_eq (r : Fin 256) (f : Fin 8192) (hf : f.val = (pt t).val * 256 + r.val) (j : Fin 1024) :
    rowH (iblk m c 0 t) (iblk m c 1 t) (iblk m c 2 t) (iblk m c 3 t) (iblk m c 4 t) (iblk m c 5 t) r j = goalH m c (ix3 (seqOf t) (tok t r) j) := by
  unfold goalH
  rw [refH_apply]
  have ex : rowX (iblk m c 0 t) (iblk m c 1 t) (iblk m c 2 t) (iblk m c 3 t) (iblk m c 5 t) r = fun j => goalX m c (ix3 (seqOf t) (tok t r) j) :=
    funext fun j => rowX_eq m c t r f hf j
  have e4 : ∀ j : Fin 1024, iblk m c 3 t (ix3 0 4 j) = _ := fun j => blk3 m c t 4 j (seqRow (seqOf t)) rfl (⟨4096 + j.val, by omega⟩ : Fin 6144) rfl
  have e3 : ∀ j : Fin 1024, iblk m c 3 t (ix3 0 3 j) = _ := fun j => blk3 m c t 3 j (seqRow (seqOf t)) rfl (⟨3072 + j.val, by omega⟩ : Fin 6144) rfl
  unfold rowH refRowH
  rw [ex]
  simp only [e3, e4, blk4]

/-- A point's product of a query with a head's packed key is the reference's score. -/
theorem score_eq (r : Fin 256) (f : Fin 8192) (hf : f.val = (pt t).val * 256 + r.val) (p : Fin 2) (h : Fin 8) (k : Fin 128)
    (K : Fin 1024 → EReal) (hK : ∀ (g : Fin 8) (d : Fin 128), K ⟨g.val * 128 + d.val, by omega⟩ = @HMul.hMul EReal EReal EReal _ (m ((c.tc : Thread nD τ).loc main_arg7) (ix5 0 h p k d)) (eye h.val g.val)) :
    ∑ l : Fin 1024, K l * ∑ i, rowH (iblk m c 0 t) (iblk m c 1 t) (iblk m c 2 t) (iblk m c 3 t) (iblk m c 4 t) (iblk m c 5 t) r i
        * iblk m c 6 t (ix2 i (⟨p.val * 1024 + l.val, by omega⟩ : Fin 2048))
      = goalS m c (ix4 f h p k) := by
  unfold goalS
  rw [refS_apply _ _ _ (seqOf t) (tok t r) f (tok_flat t r f hf) h p k]
  rw [sum_one_head h K _ (fun d => m ((c.tc : Thread nD τ).loc main_arg7) (ix5 0 h p k d))]
  · unfold score
    refine Finset.sum_congr rfl fun d _ => congrArg (fun z : EReal => @HMul.hMul EReal EReal EReal _ (m ((c.tc : Thread nD τ).loc main_arg7) (ix5 0 h p k d)) z) (Finset.sum_congr rfl fun i _ => ?_)
    rw [rowH_eq m c t r f hf i]
    exact congrArg (fun z : EReal => goalH m c (ix3 (seqOf t) (tok t r) i) * z) (blk6 m c t i p h d _ _ (by change p.val * 1024 + (h.val * 128 + d.val) = _; omega) rfl)
  · intro g d
    rw [hK g d, eye_eq]
    split
    · exact mul_one _
    · exact mul_zero _

theorem point9 (r : Fin 256) (j : Fin 1024) (f : Fin 8192) (l : Fin 1024) (hf : f.val = (pt t).val * 256 + r.val) (hl : l.val = j.val) :
    out0_9 (iblk m c 0 t) (iblk m c 1 t) (iblk m c 2 t) (iblk m c 3 t) (iblk m c 4 t) (iblk m c 5 t) (iblk m c 6 t) (iblk m c 7 t) (iblk m c 8 t) (ix2 r j)
      = ref0 (goalX m c) (ix2 f l) := by
  obtain rfl : l = j := Fin.ext hl
  rw [out9, ref0_apply _ (seqOf t) (tok t r) f (tok_flat t r f hf)]
  exact rowX_eq m c t r f hf l

theorem point10 (r : Fin 256) (j : Fin 1024) (f : Fin 8192) (l : Fin 1024) (hf : f.val = (pt t).val * 256 + r.val) (hl : l.val = j.val) :
    out0_10 (iblk m c 0 t) (iblk m c 1 t) (iblk m c 2 t) (iblk m c 3 t) (iblk m c 4 t) (iblk m c 5 t) (iblk m c 6 t) (iblk m c 7 t) (iblk m c 8 t) (ix2 j r)
      = ref1 (goalH m c) (ix2 l f) := by
  obtain rfl : l = j := Fin.ext hl
  rw [out10, ref1_apply _ (seqOf t) (tok t r) f (tok_flat t r f hf)]
  exact rowH_eq m c t r f hf l

theorem point11 (p : Fin 2) (n : Fin 1024) (r : Fin 256) (q : Fin 2) (l : Fin 1024) (f : Fin 8192) (hq : q.val = p.val) (hl : l.val = n.val) (hf : f.val = (pt t).val * 256 + r.val) :
    out0_11 (iblk m c 0 t) (iblk m c 1 t) (iblk m c 2 t) (iblk m c 3 t) (iblk m c 4 t) (iblk m c 5 t) (iblk m c 6 t) (iblk m c 7 t) (iblk m c 8 t) (ix3 p n r)
      = ref2 (goalS m c) (ix3 q l f) := by
  obtain rfl : l = n := Fin.ext hl
  obtain rfl : q = p := Fin.ext hq
  rw [ref2_apply _ f q (⟨l.val % 8, by omega⟩ : Fin 8) (⟨l.val / 8, by omega⟩ : Fin 128) l (by change l.val = l.val / 8 * 8 + l.val % 8; omega)]
  have hK := fun g d => blk7 m c t q (⟨l.val / 8, by omega⟩ : Fin 128) (⟨l.val % 8, by omega⟩ : Fin 8) g d l ⟨g.val * 128 + d.val, by omega⟩ (by change l.val = l.val / 8 * 8 + l.val % 8; omega) rfl
  rw [← score_eq m c t r f hf q _ _ (fun i => iblk m c 7 t (ix3 q l i)) hK]
  fin_cases q
  · refine (out11_0 _ _ _ _ _ _ _ _ _ l r).trans ?_
    have e : ∀ x : Fin 1024, (⟨x.val, by omega⟩ : Fin 2048) = ⟨((0 : Fin 2) : ℕ) * 1024 + x.val, by omega⟩ := fun x =>
      Fin.ext (by change x.val = 0 * 1024 + x.val; omega)
    simp only [e]
    rfl
  · exact out11_1 _ _ _ _ _ _ _ _ _ l r

theorem point12 (n : Fin 1024) (r : Fin 256) (l : Fin 1024) (f : Fin 8192) (hl : l.val = n.val) (hf : f.val = (pt t).val * 256 + r.val) :
    out0_12 (iblk m c 0 t) (iblk m c 1 t) (iblk m c 2 t) (iblk m c 3 t) (iblk m c 4 t) (iblk m c 5 t) (iblk m c 6 t) (iblk m c 7 t) (iblk m c 8 t) (ix2 n r)
      = ref3 (goalS m c) (ix2 l f) := by
  obtain rfl : l = n := Fin.ext hl
  rw [ref3_apply _ f (⟨l.val / 128, by omega⟩ : Fin 8) (⟨l.val % 128, by omega⟩ : Fin 128) l (by change l.val = l.val / 128 * 128 + l.val % 128; omega)]
  have hK := fun g d => blk8 m c t (⟨l.val % 128, by omega⟩ : Fin 128) (⟨l.val / 128, by omega⟩ : Fin 8) g d l ⟨g.val * 128 + d.val, by omega⟩ (by change l.val = l.val / 128 * 128 + l.val % 128; omega) rfl
  rw [← score_eq m c t r f hf 1 _ _ (fun i => iblk m c 8 t (ix2 l i)) hK]
  exact out12 _ _ _ _ _ _ _ _ _ l r

/-- The residual stream after the run, -/
theorem array9 : (dats m 0 c).arrAt 9 cfg0.N = ref0 (goalX m c) := by
  refine (dats m 0 c).arrAt_eq_of_covers 9 _ (by decide +kernel) fun t hf y => ?_
  blk_simp
  rw [after0_9]
  idx_vars y
  exact (point9 m c t y0 y1 _ _ (emb9 t (ix2 y0 y1)).1 (emb9 t (ix2 y0 y1)).2).trans (congrArg _ (eq_ix2 _).symm)

/-- its normalised rows, transposed, -/
theorem array10 : (dats m 0 c).arrAt 10 cfg0.N = ref1 (goalH m c) := by
  refine (dats m 0 c).arrAt_eq_of_covers 10 _ (by decide +kernel) fun t hf y => ?_
  blk_simp
  rw [after0_10]
  idx_vars y
  exact (point10 m c t y1 y0 _ _ (emb10 t (ix2 y0 y1)).2 (emb10 t (ix2 y0 y1)).1).trans (congrArg _ (eq_ix2 _).symm)

/-- the scores of both parts, -/
theorem array11 : (dats m 0 c).arrAt 11 cfg0.N = ref2 (goalS m c) := by
  refine (dats m 0 c).arrAt_eq_of_covers 11 _ (by decide +kernel) fun t hf y => ?_
  blk_simp
  rw [after0_11]
  idx_vars y
  exact (point11 m c t y0 y1 y2 _ _ _ (emb11 t (ix3 y0 y1 y2)).1 (emb11 t (ix3 y0 y1 y2)).2.1 (emb11 t (ix3 y0 y1 y2)).2.2).trans (congrArg _ (eq_ix3 _).symm)

/-- and those of the second part, head by head. -/
theorem array12 : (dats m 0 c).arrAt 12 cfg0.N = ref3 (goalS m c) := by
  refine (dats m 0 c).arrAt_eq_of_covers 12 _ (by decide +kernel) fun t hf y => ?_
  blk_simp
  rw [after0_12]
  idx_vars y
  exact (point12 m c t y0 y1 _ _ (emb12 t (ix2 y0 y1)).1 (emb12 t (ix2 y0 y1)).2).trans (congrArg _ (eq_ix2 _).symm)

end Merge

end
-- ==== Proof.Proj.Math.lean ====
/-
  The mathematics of the modulation and of the input projection over the extended reals: one entry of the modulation
  of a conditioning row, and one entry of a token's projection.
-/
module

public import proofs.«01_k».proof.Proof.Merge.Math

@[expose] public section

noncomputable section

namespace Proj

open Idealize.ShloMosaic

/-- One entry of the modulation: the row `z` through the gated unit `z · σ(z)`, under the column `w`, with the bias `b`. -/
def modv (z w : Fin 1024 → EReal) (b : EReal) : EReal := ∑ i, z i * Ideal.logistic (z i) * w i + b

/-- One entry of the projection: the row `x` normalised with gain `g`, scaled by `1 + sc` and shifted by `sh`, under the
    column `w`. -/
def projv (x g sc sh w : Fin 1024 → EReal) : EReal := ∑ i, Merge.normed x g sc sh i * w i

end Proj

end
-- ==== Proof.Proj.Block.lean ====
/-
  What the modulation kernel and the projection kernel store at one grid point, from the blocks that the point reads.
-/
module

public import proofs.«01_k».proof.Proof.Gen.ProjIdeal.Frame
public import proofs.«01_k».proof.Proof.Proj.Math
public import Idealize.ShloMosaic.Lib.Pipeline.ValueKit

@[expose] public section

set_option maxRecDepth 16384

noncomputable section

namespace Proj

open Idealize.ShloMosaic Idealize.ShloMosaic.TcCoe Idealize.SL.Sem
open Cert.ProjIdeal Cert.ProjIdeal.Gen

section modulation
variable (x0 : Vec Ideal S16x1024 .f32) (x1 : Vec Ideal S1024x1536 .f32) (x2 : Vec Ideal S1x1536 .f32)

/-- The modulation's block at a row and a lane. -/
theorem out3 (r : Fin 16) (j : Fin 1536) :
    out0_3 x0 x1 x2 (ix2 r j) = modv (fun i => x0 (ix2 r i)) (fun i => x1 (ix2 i j)) (x2 (ix2 0 j)) := by
  unfold out0_3
  frame_out
  pointwise [k0_pay1]
  rfl

end modulation

variable (x0 : Vec Ideal S256x1024 .f32) (x1 : Vec Ideal S1x6x1024 .f32) (x2 : Vec Ideal S1x1024 .f32) (x3 : Vec Ideal S1024x2048 .bf16)

/-- The projection of the point's token `r`. -/
def rowZ (r : Fin 256) (l : Fin 2048) : EReal :=
  projv (fun j => x0 (ix2 r j)) (fun j => x2 (ix2 0 j)) (fun j => x1 (ix3 0 1 j)) (fun j => x1 (ix3 0 0 j)) (fun i => x3 (ix2 i l))

/-- The product's payload at a row and a lane. -/
theorem pay5_apply (r : Fin 256) (l : Fin 2048) :
    k1_pay5 x0 x2 (View.ld x1 r1_2) (View.ld x1 r1_3) x3 (ix2 r l) = rowZ x0 x1 x2 x3 r l := by
  pointwise [k1_pay5]
  rfl

/-- The queries, -/
theorem out4 (r : Fin 256) (j : Fin 512) : out1_4 x0 x1 x2 x3 (ix2 r j) = rowZ x0 x1 x2 x3 r (⟨j.val, by omega⟩ : Fin 2048) := by
  unfold_out out1_4
  frame_out
  pointwise [k1_pay6]
  exact pay5_apply x0 x1 x2 x3 r _

/-- the keys, -/
theorem out5 (r : Fin 256) (j : Fin 512) : out1_5 x0 x1 x2 x3 (ix2 r j) = rowZ x0 x1 x2 x3 r (⟨512 + j.val, by omega⟩ : Fin 2048) := by
  unfold_out out1_5
  frame_out
  pointwise [k1_pay7]
  exact pay5_apply x0 x1 x2 x3 r _

/-- the values, -/
theorem out6 (r : Fin 256) (j : Fin 512) : out1_6 x0 x1 x2 x3 (ix2 r j) = rowZ x0 x1 x2 x3 r (⟨1024 + j.val, by omega⟩ : Fin 2048) := by
  unfold_out out1_6
  frame_out
  pointwise [k1_pay1]
  exact pay5_apply x0 x1 x2 x3 r _

/-- the Fourier mixing's lanes, -/
theorem out7 (r : Fin 256) (j : Fin 512) : out1_7 x0 x1 x2 x3 (ix2 r j) = rowZ x0 x1 x2 x3 r (⟨1536 + j.val, by omega⟩ : Fin 2048) := by
  unfold_out out1_7
  frame_out
  pointwise [k1_pay4]
  exact pay5_apply x0 x1 x2 x3 r _

/-- the keys again, unrounded, -/
theorem out8 (r : Fin 256) (j : Fin 512) : out1_8 x0 x1 x2 x3 (ix2 r j) = rowZ x0 x1 x2 x3 r (⟨512 + j.val, by omega⟩ : Fin 2048) := by
  unfold_out out1_8
  frame_out
  pointwise [k1_pay2]
  exact pay5_apply x0 x1 x2 x3 r _

/-- and the values. -/
theorem out9 (r : Fin 256) (j : Fin 512) : out1_9 x0 x1 x2 x3 (ix2 r j) = rowZ x0 x1 x2 x3 r (⟨1024 + j.val, by omega⟩ : Fin 2048) := by
  unfold_out out1_9
  frame_out
  pointwise [k1_pay3]
  exact pay5_apply x0 x1 x2 x3 r _

end Proj

end
-- ==== Proof.Proj.Mod.lean ====
/-
  The modulation kernel's array after its region: sixteen conditioning rows, the prompt's first, each through the gated
  unit, the weights and the bias.
-/
module

public import proofs.«01_k».proof.Proof.Proj.Block

@[expose] public section

set_option maxRecDepth 16384

noncomputable section

namespace Proj

open Idealize.ShloMosaic Idealize.ShloMosaic.TcCoe Idealize.SL.Sem
open Cert.ProjIdeal Cert.ProjIdeal.Gen

/-- The modulation's grid point's number. -/
def pt0 (t : Fin cfg0.N) : Fin 4 := grid0.coords t 0

/-- The windows' block indices at a point of the modulation. -/
theorem idx0 (t : Fin cfg0.N) :
    win0_0.index t = ![0, 0] ∧ win0_1.index t = ![0, (pt0 t).val] ∧ win0_2.index t = ![0, (pt0 t).val] ∧ win0_3.index t = ![0, (pt0 t).val] := by
  revert t
  decide +kernel

/-- The prompt's conditioning vector, eight sequences' below it, and rows of zeros. -/
def stack (z : FVec Ideal S1024 .f32) (e : FVec Ideal S8x1024 .f32) : FVec Ideal S16x1024 .f32 :=
  concatenate S16x1024 0 [⟨S1x1024, broadcastInDim S1x1024 ![1] bcast_S1024_S1x1024_1 z⟩, ⟨S8x1024, e⟩, ⟨S7x1024, broadcastInDim S7x1024 ![] bcast_S_S7x1024 (constant S_ .f32 0x00000000#32 : FVec Ideal S_ .f32)⟩] concatenates_S1x1024_S8x1024_S7x1024_S16x1024_d0

theorem stack0 (z : FVec Ideal S1024 .f32) (e : FVec Ideal S8x1024 .f32) (i : Fin 1024) : stack z e (ix2 0 i) = z (ix1 i) := by
  pointwise [stack]

variable (m : (ℓ : Loc nD τ sig) → Buf (Elt Ideal) ℓ) (ρ : Dev nD → PrngReg) (c : Dev nD) (t : Fin cfg0.N)

/-- The conditioning rows, as the host code stacks them. -/
def cond : FVec Ideal S16x1024 .f32 := V1 m ρ c main_v2

/-- The conditioning rows are that stack. -/
theorem cond_eq : cond m ρ c = stack (m ((c.tc : Thread nD τ).loc main_arg2)) (m ((c.tc : Thread nD τ).loc main_arg1)) := by
  change StableHlo.after hostOps0 (W0 m ρ c) (Proc.devRef .tc main_v2) = _
  simp only [StableHlo.after_cons, StableHlo.after_nil]
  after_results_steps
  rfl

/-- The first of them is the prompt's. -/
theorem cond0 (i : Fin 1024) : cond m ρ c (ix2 0 i) = m ((c.tc : Thread nD τ).loc main_arg2) (ix1 i) := by
  rw [cond_eq, stack0]

theorem mblk0 (r : Fin 16) (i : Fin 1024) : @Eq EReal (iblk0 (V1 m ρ) c 0 t (ix2 r i)) (cond m ρ c (ix2 r i)) := by
  have he : ((cfg0.win 0).blk t).view.emb (ix2 r i) = (ix2 r i : Shape.Idx S16x1024) := by
    blk_ext [idx0 t]
  exact congrArg (V1 m ρ c main_v2) he

/-- The weights, as the host code leaves them. -/
theorem mhost1 (i : Fin 1024) (l : Fin 6144) :
    @Eq EReal (V1 m ρ c main_v3 (ix2 i l)) (m ((c.tc : Thread nD τ).loc main_arg3) (ix3 0 i l)) := by
  change @Eq EReal (StableHlo.after hostOps0 (W0 m ρ c) (Proc.devRef .tc main_v3) (ix2 i l)) _
  entry_read
  pointwise

theorem mhost2 (l : Fin 6144) :
    @Eq EReal (V1 m ρ c main_v5 (ix2 0 l)) (m ((c.tc : Thread nD τ).loc main_arg4) (ix2 0 l)) := by
  change @Eq EReal (StableHlo.after hostOps0 (W0 m ρ c) (Proc.devRef .tc main_v5) (ix2 0 l)) _
  entry_read
  pointwise

theorem mblk1 (i : Fin 1024) (j : Fin 1536) (l : Fin 6144) (hl : l.val = (pt0 t).val * 1536 + j.val) :
    @Eq EReal (iblk0 (V1 m ρ) c 1 t (ix2 i j)) (m ((c.tc : Thread nD τ).loc main_arg3) (ix3 0 i l)) := by
  have he : ((cfg0.win 1).blk t).view.emb (ix2 i j) = (ix2 i l : Shape.Idx S1024x6144) := by
    blk_ext [idx0 t]
  exact (congrArg (V1 m ρ c main_v3) he).trans (mhost1 m ρ c i l)

theorem mblk2 (j : Fin 1536) (l : Fin 6144) (hl : l.val = (pt0 t).val * 1536 + j.val) :
    @Eq EReal (iblk0 (V1 m ρ) c 2 t (ix2 0 j)) (m ((c.tc : Thread nD τ).loc main_arg4) (ix2 0 l)) := by
  have he : ((cfg0.win 2).blk t).view.emb (ix2 0 j) = (ix2 0 l : Shape.Idx S1x6144) := by
    blk_ext [idx0 t]
  exact (congrArg (V1 m ρ c main_v5) he).trans (mhost2 m ρ c l)

/-- The modulation of all sixteen rows. -/
def modAll : FVec Ideal S16x6144 .f32 := fun y =>
  modv (fun i => cond m ρ c (ix2 (y 0) i)) (fun i => m ((c.tc : Thread nD τ).loc main_arg3) (ix3 0 i (y 1))) (m ((c.tc : Thread nD τ).loc main_arg4) (ix2 0 (y 1)))

theorem mpoint (r : Fin 16) (j : Fin 1536) (f : Fin 16) (l : Fin 6144) (hf : f.val = r.val) (hl : l.val = (pt0 t).val * 1536 + j.val) :
    out0_3 (iblk0 (V1 m ρ) c 0 t) (iblk0 (V1 m ρ) c 1 t) (iblk0 (V1 m ρ) c 2 t) (ix2 r j) = modAll m ρ c (ix2 f l) := by
  obtain rfl : f = r := Fin.ext hf
  rw [out3]
  have e0 : (fun i => iblk0 (V1 m ρ) c 0 t (ix2 f i)) = fun i => cond m ρ c (ix2 f i) := funext fun i => mblk0 m ρ c t f i
  have e1 : (fun i => iblk0 (V1 m ρ) c 1 t (ix2 i j)) = fun i => m ((c.tc : Thread nD τ).loc main_arg3) (ix3 0 i l) := funext fun i => mblk1 m ρ c t i j l hl
  have e2 := mblk2 m ρ c t j l hl
  rw [e0, e1, e2]
  rfl

/-- The modulation's array when its region is left. -/
theorem modArray : (dat0 (V1 m ρ) c).arrAt 3 cfg0.N = modAll m ρ c := by
  refine (dat0 (V1 m ρ) c).arrAt_eq_of_covers 3 _ (by decide +kernel) fun t hf y => ?_
  blk_simp
  rw [after0_3]
  idx_vars y
  exact (mpoint m ρ c t _ _ _ _ (by blk_ext [idx0 t]) (by blk_ext [idx0 t])).trans (congrArg _ (eq_ix2 _).symm)

/-- Its first row is the prompt's modulation. -/
theorem modAll0 (l : Fin 6144) : modAll m ρ c (ix2 0 l)
    = modv (fun i => m ((c.tc : Thread nD τ).loc main_arg2) (ix1 i)) (fun i => m ((c.tc : Thread nD τ).loc main_arg3) (ix3 0 i l)) (m ((c.tc : Thread nD τ).loc main_arg4) (ix2 0 l)) := by
  have e : (fun i => cond m ρ c (ix2 0 i)) = fun i => m ((c.tc : Thread nD τ).loc main_arg2) (ix1 i) := funext fun i => cond0 m ρ c i
  unfold modAll
  exact congrArg (fun z => modv z _ _) e

end Proj

end
-- ==== Proof.Proj.Ref.lean ====
/-
  What the reference of the prompt stream's projection computes, token by token (Proof/Proj/Math.lean).
-/
module

public import proofs.«01_k».proof.Proof.Gen.ProjReferenceIdeal.Run
public import proofs.«01_k».proof.Proof.Proj.Math

@[expose] public section

set_option maxRecDepth 16384

noncomputable section

namespace Proj

open Idealize.ShloMosaic Idealize.ShloMosaic.TcCoe Idealize.SL.Sem
open Cert.ProjReferenceIdeal Cert.ProjReferenceIdeal.Gen

/-- The modulation of the prompt's conditioning vector: six parts on one axis. -/
def refMod (z : FVec Ideal S1024 .f32) (w : FVec Ideal S1x1024x6144 .f32) (b : FVec Ideal S1x6144 .f32) : FVec Ideal S1x6144 .f32 :=
  broadcastInDim S1x6144 ![1] bcast_S6144_S1x6144_1 (addf (Host.dotGeneral dot_S1024_S1024x6144_S6144_0_0_n_1_n_n none (mulf z (Host.divf (broadcastInDim S1024 ![] bcast_S_S1024 (constant S_ .f32 0x3F800000#32)) (addf (broadcastInDim S1024 ![] bcast_S_S1024 (constant S_ .f32 0x3F800000#32)) (Host.exp (Host.negf z))))) (shapeCast _ w shapeCasts_S1x1024x6144_S1024x6144)) (shapeCast _ b shapeCasts_S1x6144_S6144))

/-- The normalised prompt stream, scaled and shifted. -/
def refH (x : FVec Ideal S32x256x1024 .f32) (md : FVec Ideal S1x6144 .f32) (g : FVec Ideal S1x1024 .f32) : FVec Ideal S32x256x1024 .f32 :=
  addf (mulf (mulf (mulf x (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf x x) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast _ g shapeCasts_S1x1024_S1024)))) (broadcastInDim S32x256x1024 ![0, 1, 2] bcast_S1x1x1024_S32x256x1024_0_1_2 (broadcastInDim S1x1x1024 ![1, 2] bcast_S1x1024_S1x1x1024_1_2 (addf (broadcastInDim S1x1024 ![] bcast_S_S1x1024 (constant S_ .f32 0x3F800000#32)) (extractStridedSlice S1x1024 ![0, 1024] md slices_S1x6144_S1x1024_0_1024))))) (broadcastInDim S32x256x1024 ![0, 1, 2] bcast_S1x1x1024_S32x256x1024_0_1_2 (broadcastInDim S1x1x1024 ![1, 2] bcast_S1x1024_S1x1x1024_1_2 (extractStridedSlice S1x1024 ![0, 0] md slices_S1x6144_S1x1024_0_0)))

/-- The projection, all tokens on one axis. -/
def refZ (h : FVec Ideal S32x256x1024 .f32) (w : FVec Ideal S1x1024x2048 .f32) : FVec Ideal S8192x2048 .f32 :=
  shapeCast _ (Host.dotGeneral dot_S32x256x1024_S1024x2048_S32x256x2048_2_0_01_1_n_n none h (shapeCast _ w shapeCasts_S1x1024x2048_S1024x2048)) shapeCasts_S32x256x2048_S8192x2048

variable (z : FVec Ideal S1024 .f32) (wm : FVec Ideal S1x1024x6144 .f32) (b : FVec Ideal S1x6144 .f32)
  (x : FVec Ideal S32x256x1024 .f32) (md : FVec Ideal S1x6144 .f32) (g : FVec Ideal S1x1024 .f32) (w : FVec Ideal S1x1024x2048 .f32)

theorem refMod_apply (l : Fin 6144) :
    refMod z wm b (ix2 0 l) = modv (fun i => z (ix1 i)) (fun i => wm (ix3 0 i l)) (b (ix2 0 l)) := by
  pointwise [refMod]
  unfold modv
  rfl

theorem refH_apply (s : Fin 32) (t : Fin 256) (j : Fin 1024) :
    refH x md g (ix3 s t j) = Merge.normed (fun j => x (ix3 s t j)) (fun j => g (ix2 0 j)) (fun j => md (ix2 0 (⟨1024 + j.val, by omega⟩ : Fin 6144)))
      (fun j => md (ix2 0 (⟨j.val, by omega⟩ : Fin 6144))) j := by
  pointwise [refH]
  rfl

theorem refZ_raw (h : FVec Ideal S32x256x1024 .f32) (r : Fin 8192) (l : Fin 2048) :
    refZ h w (ix2 r l) = ∑ i : Fin 1024, h (ix3 (⟨r.val / 256, by omega⟩ : Fin 32) (⟨r.val % 256, by omega⟩ : Fin 256) i) * w (ix3 0 i l) := by
  pointwise [refZ]

/-- The projection of one token. -/
theorem refZ_apply (s : Fin 32) (t : Fin 256) (r : Fin 8192) (hr : r.val = s.val * 256 + t.val) (l : Fin 2048) :
    refZ (refH x md g) w (ix2 r l) = projv (fun j => x (ix3 s t j)) (fun j => g (ix2 0 j)) (fun j => md (ix2 0 (⟨1024 + j.val, by omega⟩ : Fin 6144)))
      (fun j => md (ix2 0 (⟨j.val, by omega⟩ : Fin 6144))) (fun i => w (ix3 0 i l)) := by
  have h1 : (⟨r.val / 256, by omega⟩ : Fin 32) = s := Fin.ext (by change r.val / 256 = s.val; omega)
  have h2 : (⟨r.val % 256, by omega⟩ : Fin 256) = t := Fin.ext (by change r.val % 256 = t.val; omega)
  rw [refZ_raw, h1, h2]
  exact Finset.sum_congr rfl fun i _ => congrArg (fun y : EReal => y * w (ix3 0 i l)) (refH_apply x md g s t i)

/-- The queries: columns from 0. -/
def ref4 (z : FVec Ideal S8192x2048 .f32) : FVec Ideal S8192x512 .bf16 :=
  truncf .bf16 (extractStridedSlice S8192x512 ![0, 0] z slices_S8192x2048_S8192x512_0_0) bitsLt_bf16_f32

theorem ref4_apply (z : FVec Ideal S8192x2048 .f32) (f : Fin 8192) (j : Fin 512) : ref4 z (ix2 f j) = z (ix2 f (⟨j.val, by omega⟩ : Fin 2048)) := by
  pointwise [ref4]

/-- The keys: columns from 512. -/
def ref5 (z : FVec Ideal S8192x2048 .f32) : FVec Ideal S8192x512 .bf16 :=
  truncf .bf16 (extractStridedSlice S8192x512 ![0, 512] z slices_S8192x2048_S8192x512_0_512) bitsLt_bf16_f32

theorem ref5_apply (z : FVec Ideal S8192x2048 .f32) (f : Fin 8192) (j : Fin 512) : ref5 z (ix2 f j) = z (ix2 f (⟨512 + j.val, by omega⟩ : Fin 2048)) := by
  pointwise [ref5]

/-- The values: columns from 1024. -/
def ref6 (z : FVec Ideal S8192x2048 .f32) : FVec Ideal S8192x512 .bf16 :=
  truncf .bf16 (extractStridedSlice S8192x512 ![0, 1024] z slices_S8192x2048_S8192x512_0_1024) bitsLt_bf16_f32

theorem ref6_apply (z : FVec Ideal S8192x2048 .f32) (f : Fin 8192) (j : Fin 512) : ref6 z (ix2 f j) = z (ix2 f (⟨1024 + j.val, by omega⟩ : Fin 2048)) := by
  pointwise [ref6]

/-- The Fourier mixing's lanes: columns from 1536. -/
def ref7 (z : FVec Ideal S8192x2048 .f32) : FVec Ideal S8192x512 .f32 :=
  extractStridedSlice S8192x512 ![0, 1536] z slices_S8192x2048_S8192x512_0_1536

theorem ref7_apply (z : FVec Ideal S8192x2048 .f32) (f : Fin 8192) (j : Fin 512) : ref7 z (ix2 f j) = z (ix2 f (⟨1536 + j.val, by omega⟩ : Fin 2048)) := by
  pointwise [ref7]

/-- The keys unrounded: columns from 512. -/
def ref8 (z : FVec Ideal S8192x2048 .f32) : FVec Ideal S8192x512 .f32 :=
  extractStridedSlice S8192x512 ![0, 512] z slices_S8192x2048_S8192x512_0_512

theorem ref8_apply (z : FVec Ideal S8192x2048 .f32) (f : Fin 8192) (j : Fin 512) : ref8 z (ix2 f j) = z (ix2 f (⟨512 + j.val, by omega⟩ : Fin 2048)) := by
  pointwise [ref8]

/-- And the values: columns from 1024. -/
def ref9 (z : FVec Ideal S8192x2048 .f32) : FVec Ideal S8192x512 .f32 :=
  extractStridedSlice S8192x512 ![0, 1024] z slices_S8192x2048_S8192x512_0_1024

theorem ref9_apply (z : FVec Ideal S8192x2048 .f32) (f : Fin 8192) (j : Fin 512) : ref9 z (ix2 f j) = z (ix2 f (⟨1024 + j.val, by omega⟩ : Fin 2048)) := by
  pointwise [ref9]

end Proj

end
-- ==== Proof.Proj.Array.lean ====
/-
  The projection kernel's six arrays after its region: the reference's results of the same arguments.
-/
module

public import proofs.«01_k».proof.Proof.Proj.Mod
public import proofs.«01_k».proof.Proof.Proj.Ref

@[expose] public section

set_option maxRecDepth 16384

noncomputable section

namespace Proj

open Idealize.ShloMosaic Idealize.ShloMosaic.TcCoe Idealize.SL.Sem
open Cert.ProjIdeal Cert.ProjIdeal.Gen

/-- The projection's grid point's number: a point takes one prompt of 256 tokens. -/
def pt1 (t : Fin cfg1.N) : Fin 32 := grid1.coords t 0

/-- The windows' block indices at a point of the projection. -/
theorem idx1 (t : Fin cfg1.N) :
    win1_0.index t = ![(pt1 t).val, 0] ∧ win1_1.index t = ![0, 0, 0] ∧ win1_2.index t = ![0, 0] ∧ win1_3.index t = ![0, 0]
    ∧ win1_4.index t = ![(pt1 t).val, 0] ∧ win1_5.index t = ![(pt1 t).val, 0] ∧ win1_6.index t = ![(pt1 t).val, 0]
    ∧ win1_7.index t = ![(pt1 t).val, 0] ∧ win1_8.index t = ![(pt1 t).val, 0] ∧ win1_9.index t = ![(pt1 t).val, 0] := by
  revert t
  decide +kernel

variable (m : (ℓ : Loc nD τ sig) → Buf (Elt Ideal) ℓ) (ρ : Dev nD → PrngReg) (c : Dev nD) (t : Fin cfg1.N)

/-- The reference's modulation of the kernel's arguments, -/
def goalM : FVec Ideal S1x6144 .f32 := refMod (m ((c.tc : Thread nD τ).loc main_arg2)) (m ((c.tc : Thread nD τ).loc main_arg3)) (m ((c.tc : Thread nD τ).loc main_arg4))

/-- and its projection. -/
def goalZ : FVec Ideal Cert.ProjReferenceIdeal.S8192x2048 .f32 := refZ (refH (m ((c.tc : Thread nD τ).loc main_arg0)) (goalM m c) (m ((c.tc : Thread nD τ).loc main_arg5))) (m ((c.tc : Thread nD τ).loc main_arg6))

/-- The modulation as the host code hands it on, six parts apart. -/
theorem phost7 (k : Fin 6) (i : Fin 1024) (l : Fin 6144) (hl : l.val = k.val * 1024 + i.val) :
    @Eq EReal (V3 m ρ c main_v7 (ix3 0 k i)) (goalM m c (ix2 0 l)) := by
  have h6 : W2 m ρ c (Proc.devRef .tc main_v6) = modAll m ρ c := (W2_arr m ρ c 3).trans (modArray m ρ c)
  have hr : @Eq EReal (V3 m ρ c main_v7 (ix3 0 k i)) (@id (FVec Ideal S16x6144 .f32) (W2 m ρ c (Proc.devRef .tc main_v6)) (ix2 0 l)) := by
    change @Eq EReal (StableHlo.after hostOps1 (W2 m ρ c) (Proc.devRef .tc main_v7) (ix3 0 k i)) _
    entry_read
    pointwise
    refine congrArg (W2 m ρ c (Proc.devRef .tc main_v6)) ?_
    blk_ext
  refine hr.trans ((congrFun h6 (ix2 0 l)).trans ((modAll0 m ρ c l).trans ?_))
  exact (refMod_apply _ _ _ l).symm

theorem phost8 (s : Fin 32) (q : Fin 256) (f : Fin 8192) (i : Fin 1024) (hf : f.val = s.val * 256 + q.val) :
    @Eq EReal (V3 m ρ c main_v8 (ix2 f i)) (m ((c.tc : Thread nD τ).loc main_arg0) (ix3 s q i)) := by
  refine Eq.trans ?_ (congrFun (W2_args m ρ c main_arg0 (by decide)) (ix3 s q i))
  change @Eq EReal (StableHlo.after hostOps1 (W2 m ρ c) (Proc.devRef .tc main_v8) (ix2 f i)) _
  entry_read
  pointwise
  refine congrArg (W2 m ρ c (Proc.devRef .tc main_arg0)) ?_
  blk_ext

theorem phost10 (i : Fin 1024) :
    @Eq EReal (V3 m ρ c main_v10 (ix2 0 i)) (m ((c.tc : Thread nD τ).loc main_arg5) (ix2 0 i)) := by
  refine Eq.trans ?_ (congrFun (W2_args m ρ c main_arg5 (by decide)) (ix2 0 i))
  change @Eq EReal (StableHlo.after hostOps1 (W2 m ρ c) (Proc.devRef .tc main_v10) (ix2 0 i)) _
  entry_read
  pointwise

theorem phost12 (i : Fin 1024) (l : Fin 2048) :
    @Eq EReal (V3 m ρ c main_v12 (ix2 i l)) (m ((c.tc : Thread nD τ).loc main_arg6) (ix3 0 i l)) := by
  refine Eq.trans ?_ (congrFun (W2_args m ρ c main_arg6 (by decide)) (ix3 0 i l))
  change @Eq EReal (StableHlo.after hostOps1 (W2 m ρ c) (Proc.devRef .tc main_v12) (ix2 i l)) _
  entry_read
  pointwise

/-- A point's token `r` is token `r` of its prompt. -/
theorem pblk0 (r : Fin 256) (i : Fin 1024) : @Eq EReal (iblk1 (V3 m ρ) c 0 t (ix2 r i)) (m ((c.tc : Thread nD τ).loc main_arg0) (ix3 (pt1 t) r i)) := by
  have he : ((cfg1.win 0).blk t).view.emb (ix2 r i) = (ix2 (⟨(pt1 t).val * 256 + r.val, by omega⟩ : Fin 8192) i : Shape.Idx S8192x1024) := by
    blk_ext [idx1 t]
  exact (congrArg (V3 m ρ c main_v8) he).trans (phost8 m ρ c (pt1 t) r _ i rfl)

theorem pblk1 (k : Fin 6) (i : Fin 1024) (l : Fin 6144) (hl : l.val = k.val * 1024 + i.val) :
    @Eq EReal (iblk1 (V3 m ρ) c 1 t (ix3 0 k i)) (goalM m c (ix2 0 l)) := by
  have he : ((cfg1.win 1).blk t).view.emb (ix3 0 k i) = (ix3 0 k i : Shape.Idx S16x6x1024) := by
    blk_ext [idx1 t]
  exact (congrArg (V3 m ρ c main_v7) he).trans (phost7 m ρ c k i l hl)

theorem pblk2 (i : Fin 1024) : @Eq EReal (iblk1 (V3 m ρ) c 2 t (ix2 0 i)) (m ((c.tc : Thread nD τ).loc main_arg5) (ix2 0 i)) := by
  have he : ((cfg1.win 2).blk t).view.emb (ix2 0 i) = (ix2 0 i : Shape.Idx S1x1024) := by
    blk_ext [idx1 t]
  exact (congrArg (V3 m ρ c main_v10) he).trans (phost10 m ρ c i)

theorem pblk3 (i : Fin 1024) (l : Fin 2048) : @Eq EReal (iblk1 (V3 m ρ) c 3 t (ix2 i l)) (m ((c.tc : Thread nD τ).loc main_arg6) (ix3 0 i l)) := by
  have he : ((cfg1.win 3).blk t).view.emb (ix2 i l) = (ix2 i l : Shape.Idx S1024x2048) := by
    blk_ext [idx1 t]
  exact (congrArg (V3 m ρ c main_v12) he).trans (phost12 m ρ c i l)

/-- The projection that a point computes is the reference's. -/
theorem rowZ_eq (r : Fin 256) (f : Fin 8192) (hf : f.val = (pt1 t).val * 256 + r.val) (l : Fin 2048) :
    rowZ (iblk1 (V3 m ρ) c 0 t) (iblk1 (V3 m ρ) c 1 t) (iblk1 (V3 m ρ) c 2 t) (iblk1 (V3 m ρ) c 3 t) r l = goalZ m c (ix2 f l) := by
  unfold goalZ
  rw [refZ_apply _ _ _ _ (pt1 t) r f hf]
  have e0 : (fun i => iblk1 (V3 m ρ) c 0 t (ix2 r i)) = fun i => m ((c.tc : Thread nD τ).loc main_arg0) (ix3 (pt1 t) r i) := funext fun i => pblk0 m ρ c t r i
  have e1 : (fun j => iblk1 (V3 m ρ) c 1 t (ix3 0 1 j)) = fun j => goalM m c (ix2 0 (⟨1024 + j.val, by omega⟩ : Fin 6144)) := funext fun j => pblk1 m ρ c t 1 j _ rfl
  have e2 : (fun j => iblk1 (V3 m ρ) c 1 t (ix3 0 0 j)) = fun j => goalM m c (ix2 0 (⟨j.val, by omega⟩ : Fin 6144)) := funext fun j => pblk1 m ρ c t 0 j _ (by change j.val = 0 * 1024 + j.val; omega)
  have e3 : (fun i => iblk1 (V3 m ρ) c 2 t (ix2 0 i)) = fun i => m ((c.tc : Thread nD τ).loc main_arg5) (ix2 0 i) := funext fun i => pblk2 m ρ c t i
  have e4 : (fun i => iblk1 (V3 m ρ) c 3 t (ix2 i l)) = fun i => m ((c.tc : Thread nD τ).loc main_arg6) (ix3 0 i l) := funext fun i => pblk3 m ρ c t i l
  unfold rowZ
  rw [e0, e1, e2, e3, e4]

theorem point4 (r : Fin 256) (j : Fin 512) (f : Fin 8192) (l : Fin 512) (hf : f.val = (pt1 t).val * 256 + r.val) (hl : l.val = j.val) :
    out1_4 (iblk1 (V3 m ρ) c 0 t) (iblk1 (V3 m ρ) c 1 t) (iblk1 (V3 m ρ) c 2 t) (iblk1 (V3 m ρ) c 3 t) (ix2 r j) = ref4 (goalZ m c) (ix2 f l) := by
  obtain rfl : l = j := Fin.ext hl
  rw [out4, ref4_apply]
  exact rowZ_eq m ρ c t r f hf _

theorem point5 (r : Fin 256) (j : Fin 512) (f : Fin 8192) (l : Fin 512) (hf : f.val = (pt1 t).val * 256 + r.val) (hl : l.val = j.val) :
    out1_5 (iblk1 (V3 m ρ) c 0 t) (iblk1 (V3 m ρ) c 1 t) (iblk1 (V3 m ρ) c 2 t) (iblk1 (V3 m ρ) c 3 t) (ix2 r j) = ref5 (goalZ m c) (ix2 f l) := by
  obtain rfl : l = j := Fin.ext hl
  rw [out5, ref5_apply]
  exact rowZ_eq m ρ c t r f hf _

theorem point6 (r : Fin 256) (j : Fin 512) (f : Fin 8192) (l : Fin 512) (hf : f.val = (pt1 t).val * 256 + r.val) (hl : l.val = j.val) :
    out1_6 (iblk1 (V3 m ρ) c 0 t) (iblk1 (V3 m ρ) c 1 t) (iblk1 (V3 m ρ) c 2 t) (iblk1 (V3 m ρ) c 3 t) (ix2 r j) = ref6 (goalZ m c) (ix2 f l) := by
  obtain rfl : l = j := Fin.ext hl
  rw [out6, ref6_apply]
  exact rowZ_eq m ρ c t r f hf _

theorem point7 (r : Fin 256) (j : Fin 512) (f : Fin 8192) (l : Fin 512) (hf : f.val = (pt1 t).val * 256 + r.val) (hl : l.val = j.val) :
    out1_7 (iblk1 (V3 m ρ) c 0 t) (iblk1 (V3 m ρ) c 1 t) (iblk1 (V3 m ρ) c 2 t) (iblk1 (V3 m ρ) c 3 t) (ix2 r j) = ref7 (goalZ m c) (ix2 f l) := by
  obtain rfl : l = j := Fin.ext hl
  rw [out7, ref7_apply]
  exact rowZ_eq m ρ c t r f hf _

theorem point8 (r : Fin 256) (j : Fin 512) (f : Fin 8192) (l : Fin 512) (hf : f.val = (pt1 t).val * 256 + r.val) (hl : l.val = j.val) :
    out1_8 (iblk1 (V3 m ρ) c 0 t) (iblk1 (V3 m ρ) c 1 t) (iblk1 (V3 m ρ) c 2 t) (iblk1 (V3 m ρ) c 3 t) (ix2 r j) = ref8 (goalZ m c) (ix2 f l) := by
  obtain rfl : l = j := Fin.ext hl
  rw [out8, ref8_apply]
  exact rowZ_eq m ρ c t r f hf _

theorem point9 (r : Fin 256) (j : Fin 512) (f : Fin 8192) (l : Fin 512) (hf : f.val = (pt1 t).val * 256 + r.val) (hl : l.val = j.val) :
    out1_9 (iblk1 (V3 m ρ) c 0 t) (iblk1 (V3 m ρ) c 1 t) (iblk1 (V3 m ρ) c 2 t) (iblk1 (V3 m ρ) c 3 t) (ix2 r j) = ref9 (goalZ m c) (ix2 f l) := by
  obtain rfl : l = j := Fin.ext hl
  rw [out9, ref9_apply]
  exact rowZ_eq m ρ c t r f hf _

/-- The queries, after the run. -/
theorem array4 : (dat1 (V3 m ρ) c).arrAt 4 cfg1.N = ref4 (goalZ m c) := by
  refine (dat1 (V3 m ρ) c).arrAt_eq_of_covers 4 _ (by decide +kernel) fun t hf y => ?_
  blk_simp
  rw [after1_4]
  idx_vars y
  exact (point4 m ρ c t _ _ _ _ (by blk_ext [idx1 t]) (by blk_ext [idx1 t])).trans (congrArg _ (eq_ix2 _).symm)

/-- the keys, after the run. -/
theorem array5 : (dat1 (V3 m ρ) c).arrAt 5 cfg1.N = ref5 (goalZ m c) := by
  refine (dat1 (V3 m ρ) c).arrAt_eq_of_covers 5 _ (by decide +kernel) fun t hf y => ?_
  blk_simp
  rw [after1_5]
  idx_vars y
  exact (point5 m ρ c t _ _ _ _ (by blk_ext [idx1 t]) (by blk_ext [idx1 t])).trans (congrArg _ (eq_ix2 _).symm)

/-- the values, after the run. -/
theorem array6 : (dat1 (V3 m ρ) c).arrAt 6 cfg1.N = ref6 (goalZ m c) := by
  refine (dat1 (V3 m ρ) c).arrAt_eq_of_covers 6 _ (by decide +kernel) fun t hf y => ?_
  blk_simp
  rw [after1_6]
  idx_vars y
  exact (point6 m ρ c t _ _ _ _ (by blk_ext [idx1 t]) (by blk_ext [idx1 t])).trans (congrArg _ (eq_ix2 _).symm)

/-- the Fourier mixing's lanes, after the run. -/
theorem array7 : (dat1 (V3 m ρ) c).arrAt 7 cfg1.N = ref7 (goalZ m c) := by
  refine (dat1 (V3 m ρ) c).arrAt_eq_of_covers 7 _ (by decide +kernel) fun t hf y => ?_
  blk_simp
  rw [after1_7]
  idx_vars y
  exact (point7 m ρ c t _ _ _ _ (by blk_ext [idx1 t]) (by blk_ext [idx1 t])).trans (congrArg _ (eq_ix2 _).symm)

/-- the keys unrounded, after the run. -/
theorem array8 : (dat1 (V3 m ρ) c).arrAt 8 cfg1.N = ref8 (goalZ m c) := by
  refine (dat1 (V3 m ρ) c).arrAt_eq_of_covers 8 _ (by decide +kernel) fun t hf y => ?_
  blk_simp
  rw [after1_8]
  idx_vars y
  exact (point8 m ρ c t _ _ _ _ (by blk_ext [idx1 t]) (by blk_ext [idx1 t])).trans (congrArg _ (eq_ix2 _).symm)

/-- and the values, after the run. -/
theorem array9 : (dat1 (V3 m ρ) c).arrAt 9 cfg1.N = ref9 (goalZ m c) := by
  refine (dat1 (V3 m ρ) c).arrAt_eq_of_covers 9 _ (by decide +kernel) fun t hf y => ?_
  blk_simp
  rw [after1_9]
  idx_vars y
  exact (point9 m ρ c t _ _ _ _ (by blk_ext [idx1 t]) (by blk_ext [idx1 t])).trans (congrArg _ (eq_ix2 _).symm)

end Proj

end
-- ==== Proof.Proj.Run.lean ====
/-
  The run of the projection's program with its values: every array that it leaves, read from the contents at the last of
  the boundaries between its two kernels and the host operations around them.
-/
module

public import proofs.«01_k».proof.Proof.Gen.ProjIdeal.Frame

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)
open Cert.ProjIdeal Cert.ProjIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the run every buffer that lives through it holds what the last boundary says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The six arrays that the program returns after the run, and its arguments. -/
theorem run : θ_run defs (onTc (τ := τ) (main (F := F))) ⟨m, fun _ => 0, ρ⟩ (fun r => ∀ c : Dev nD,
      r.2.mem ((c.tc : Thread nD τ).loc main_v13_0) = (dat1 (V3 m ρ) c).arrAt 4 cfg1.N
      ∧ r.2.mem ((c.tc : Thread nD τ).loc main_v13_1) = (dat1 (V3 m ρ) c).arrAt 5 cfg1.N
      ∧ r.2.mem ((c.tc : Thread nD τ).loc main_v13_2) = (dat1 (V3 m ρ) c).arrAt 6 cfg1.N
      ∧ r.2.mem ((c.tc : Thread nD τ).loc main_v13_3) = (dat1 (V3 m ρ) c).arrAt 7 cfg1.N
      ∧ r.2.mem ((c.tc : Thread nD τ).loc main_v13_4) = (dat1 (V3 m ρ) c).arrAt 8 cfg1.N
      ∧ r.2.mem ((c.tc : Thread nD τ).loc main_v13_5) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13_0 (by decide))).trans (W4_arr m ρ c 4), (h c _ (mem_uc main_v13_1 (by decide))).trans (W4_arr m ρ c 5),
     (h c _ (mem_uc main_v13_2 (by decide))).trans (W4_arr m ρ c 6), (h c _ (mem_uc main_v13_3 (by decide))).trans (W4_arr m ρ c 7),
     (h c _ (mem_uc main_v13_4 (by decide))).trans (W4_arr m ρ c 8), (h c _ (mem_uc main_v13_5 (by decide))).trans (W4_arr m ρ c 9),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c),
     (h c _ (mem_uc main_arg6 (by decide))).trans (W4_main_arg6 m ρ c)⟩) (run_all m ρ)

end Proj

end
-- ==== Proof.Rope.Block.lean ====
/-
  What the latent stream's projection kernel stores at one grid point, from the blocks that the point reads: 256 tokens'
  normalised rows under the columns of the packed weights, queries and keys with their turned columns' share added.
-/
module

public import proofs.«01_k».proof.Proof.Gen.RopeIdeal.Frame
public import proofs.«01_k».proof.Proof.Proj.Math
public import Idealize.ShloMosaic.Lib.Pipeline.ValueKit

@[expose] public section

set_option maxRecDepth 16384

noncomputable section

namespace Rope

open Idealize.ShloMosaic Idealize.ShloMosaic.TcCoe Idealize.SL.Sem
open Cert.RopeIdeal Cert.RopeIdeal.Gen

variable (x0 : Vec Ideal S256x1024 .f32) (x1 : Vec Ideal S1x6x1024 .f32) (x2 : Vec Ideal S1x1024 .f32)
  (x3 : Vec Ideal S1024x3072 .bf16) (x4 x5 : Vec Ideal S256x512 .f32)

/-- The projection of the point's token `r` at a column of the packed weights. -/
def rowZ (r : Fin 256) (l : Fin 3072) : EReal :=
  Proj.projv (fun j => x0 (ix2 r j)) (fun j => x2 (ix2 0 j)) (fun j => x1 (ix3 0 1 j)) (fun j => x1 (ix3 0 0 j)) (fun i => x3 (ix2 i l))

theorem pay5_apply (r : Fin 256) (l : Fin 3072) : k0_pay5 x0 x2 (View.ld x1 r0_2) (View.ld x1 r0_3) x3 (ix2 r l) = rowZ x0 x1 x2 x3 r l := by
  pointwise [k0_pay5]
  rfl

theorem out6 (r : Fin 256) (j : Fin 512) : out0_6 x0 x1 x2 x3 x4 x5 (ix2 r j)
    = rowZ x0 x1 x2 x3 r (⟨j.val, by omega⟩ : Fin 3072) * x4 (ix2 r j) + rowZ x0 x1 x2 x3 r (⟨2048 + j.val, by omega⟩ : Fin 3072) * x5 (ix2 r j) := by
  unfold_out out0_6
  frame_out
  pointwise [k0_pay1, k0_pay8, k0_pay9, k0_pay6, k0_pay7]
  simp only [pay5_apply]

theorem out7 (r : Fin 256) (j : Fin 512) : out0_7 x0 x1 x2 x3 x4 x5 (ix2 r j)
    = rowZ x0 x1 x2 x3 r (⟨512 + j.val, by omega⟩ : Fin 3072) * x4 (ix2 r j) + rowZ x0 x1 x2 x3 r (⟨2560 + j.val, by omega⟩ : Fin 3072) * x5 (ix2 r j) := by
  unfold_out out0_7
  frame_out
  pointwise [k0_pay2, k0_pay10, k0_pay6, k0_pay7]
  simp only [pay5_apply]

theorem out8 (r : Fin 256) (j : Fin 512) : out0_8 x0 x1 x2 x3 x4 x5 (ix2 r j) = rowZ x0 x1 x2 x3 r (⟨1024 + j.val, by omega⟩ : Fin 3072) := by
  unfold_out out0_8
  frame_out
  pointwise [k0_pay3, k0_pay10]
  simp only [pay5_apply]

theorem out9 (r : Fin 256) (j : Fin 512) : out0_9 x0 x1 x2 x3 x4 x5 (ix2 r j) = rowZ x0 x1 x2 x3 r (⟨1536 + j.val, by omega⟩ : Fin 3072) := by
  unfold_out out0_9
  frame_out
  pointwise [k0_pay4, k0_pay10]
  simp only [pay5_apply]

end Rope

end
-- ==== Proof.Rope.Ref.lean ====
/-
  What the reference of the latent stream's projection computes, token by token: the normalised row under a column of
  the weights, and for queries and keys that entry and its partner's, turned by the token's angle.
-/
module

public import proofs.«01_k».proof.Proof.Gen.RopeReferenceIdeal.Run
public import proofs.«01_k».proof.Proof.Proj.Math
public import proofs.«01_k».proof.Proof.Merge.Ref

@[expose] public section

set_option maxRecDepth 16384

noncomputable section

namespace Rope

open Idealize.ShloMosaic Idealize.ShloMosaic.TcCoe Idealize.SL.Sem
open Cert.RopeReferenceIdeal Cert.RopeReferenceIdeal.Gen

/-- The frequencies: powers of the base. -/
def freq : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

/-- The angles along the grid's rows, -/
def angRow : FVec Ideal S1024x16 .f32 :=
  mulf (broadcastInDim S1024x16 ![0, 1] bcast_S1024x1_S1024x16_0_1 (broadcastInDim S1024x1 ![0] bcast_S1024_S1024x1_0 (sitofp .f32 (shapeCast _ (broadcastInDim S16x64 ![0] bcast_S16_S16x64_0 (iotaInDim S16 32 0)) shapeCasts_S16x64_S1024)))) (broadcastInDim S1024x16 ![0, 1] bcast_S1x16_S1024x16_0_1 (broadcastInDim S1x16 ![1] bcast_S16_S1x16_1 freq))

/-- and along its columns. -/
def angCol : FVec Ideal S1024x16 .f32 :=
  mulf (broadcastInDim S1024x16 ![0, 1] bcast_S1024x1_S1024x16_0_1 (broadcastInDim S1024x1 ![0] bcast_S1024_S1024x1_0 (sitofp .f32 (shapeCast _ (broadcastInDim S16x64 ![0, 1] bcast_S1x64_S16x64_0_1 (shapeCast _ (iotaInDim S64 32 0) shapeCasts_S64_S1x64)) shapeCasts_S16x64_S1024)))) (broadcastInDim S1024x16 ![0, 1] bcast_S1x16_S1024x16_0_1 (broadcastInDim S1x16 ![1] bcast_S16_S1x16_1 freq))

/-- A token's angles, lane by lane. -/
def ang : FVec Ideal S1024x64 .f32 :=
  concatenate S1024x64 1 [⟨S1024x16, angRow⟩, ⟨S1024x16, angRow⟩, ⟨S1024x16, angCol⟩, ⟨S1024x16, angCol⟩] concatenates_S1024x16_S1024x16_S1024x16_S1024x16_S1024x64_d1

/-- The normalised latent stream, scaled and shifted. -/
def refH (x : FVec Ideal S8x1024x1024 .f32) (md : FVec Ideal S16x6144 .f32) (g : FVec Ideal S1x1024 .f32) : FVec Ideal S8x1024x1024 .f32 :=
  addf (mulf (mulf (mulf x (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf x x) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ g shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 0, 1024] (Merge.refMod md) slices_S8x1x6144_S8x1x1024_0_0_1024)))) (broadcastInDim S8x1024x1024 ![0, 1, 2] bcast_S8x1x1024_S8x1024x1024_0_1_2 (extractStridedSlice S8x1x1024 ![0, 0, 0] (Merge.refMod md) slices_S8x1x6144_S8x1x1024_0_0_0))

/-- The projection. -/
def refZ (h : FVec Ideal S8x1024x1024 .f32) (w : FVec Ideal S1x1024x2048 .f32) : FVec Ideal S8x1024x2048 .f32 :=
  Host.dotGeneral dot_S8x1024x1024_S1024x2048_S8x1024x2048_2_0_01_1_n_n none h (shapeCast _ w shapeCasts_S1x1024x2048_S1024x2048)

/-- The rotation of every head's map by the tokens' angles. -/
def turn (z : FVec Ideal S8x1024x4x2x64 .f32) : FVec Ideal S8x1024x4x2x64 .f32 :=
  addf (mulf z (broadcastInDim S8x1024x4x2x64 ![0, 1, 2, 3, 4] bcast_S1x1024x1x1x64_S8x1024x4x2x64_0_1_2_3_4 (broadcastInDim S1x1024x1x1x64 ![1, 2, 3, 4] bcast_S1024x1x1x64_S1x1024x1x1x64_1_2_3_4 (broadcastInDim S1024x1x1x64 ![0, 3] bcast_S1024x64_S1024x1x1x64_0_3 (Host.cos ang)))))
    (mulf (concatenate S8x1024x4x2x64 4 [⟨S8x1024x4x2x16, Host.negf (extractStridedSlice S8x1024x4x2x16 ![0, 0, 0, 0, 16] z slices_S8x1024x4x2x64_S8x1024x4x2x16_0_0_0_0_16)⟩, ⟨S8x1024x4x2x16, extractStridedSlice S8x1024x4x2x16 ![0, 0, 0, 0, 0] z slices_S8x1024x4x2x64_S8x1024x4x2x16_0_0_0_0_0⟩, ⟨S8x1024x4x2x16, Host.negf (extractStridedSlice S8x1024x4x2x16 ![0, 0, 0, 0, 48] z slices_S8x1024x4x2x64_S8x1024x4x2x16_0_0_0_0_48)⟩, ⟨S8x1024x4x2x16, extractStridedSlice S8x1024x4x2x16 ![0, 0, 0, 0, 32] z slices_S8x1024x4x2x64_S8x1024x4x2x16_0_0_0_0_32⟩] concatenates_S8x1024x4x2x16_S8x1024x4x2x16_S8x1024x4x2x16_S8x1024x4x2x16_S8x1024x4x2x64_d4)
      (broadcastInDim S8x1024x4x2x64 ![0, 1, 2, 3, 4] bcast_S1x1024x1x1x64_S8x1024x4x2x64_0_1_2_3_4 (broadcastInDim S1x1024x1x1x64 ![1, 2, 3, 4] bcast_S1024x1x1x64_S1x1024x1x1x64_1_2_3_4 (broadcastInDim S1024x1x1x64 ![0, 3] bcast_S1024x64_S1024x1x1x64_0_3 (Host.sin ang)))))

/-- The queries before the rotation: columns from 0. -/
def cut0 (z : FVec Ideal S8x1024x2048 .f32) : FVec Ideal S8x1024x4x2x64 .f32 :=
  shapeCast _ (extractStridedSlice S8x1024x512 ![0, 0, 0] z slices_S8x1024x2048_S8x1024x512_0_0_0) shapeCasts_S8x1024x512_S8x1024x4x2x64

/-- The keys before the rotation: columns from 512. -/
def cut1 (z : FVec Ideal S8x1024x2048 .f32) : FVec Ideal S8x1024x4x2x64 .f32 :=
  shapeCast _ (extractStridedSlice S8x1024x512 ![0, 0, 512] z slices_S8x1024x2048_S8x1024x512_0_0_512) shapeCasts_S8x1024x512_S8x1024x4x2x64

/-- All tokens and heads on two axes. -/
def flat (z : FVec Ideal S8x1024x4x2x64 .f32) : FVec Ideal S8192x512 .bf16 :=
  truncf .bf16 (shapeCast _ z shapeCasts_S8x1024x4x2x64_S8192x512) bitsLt_bf16_f32

/-- The values: columns from 1024. -/
def ref2 (z : FVec Ideal S8x1024x2048 .f32) : FVec Ideal S8192x512 .bf16 :=
  truncf .bf16 (shapeCast _ (extractStridedSlice S8x1024x512 ![0, 0, 1024] z slices_S8x1024x2048_S8x1024x512_0_0_1024) shapeCasts_S8x1024x512_S8192x512) bitsLt_bf16_f32

/-- The Fourier mixing's lanes: columns from 1536. -/
def ref3 (z : FVec Ideal S8x1024x2048 .f32) : FVec Ideal S8192x512 .f32 :=
  shapeCast _ (extractStridedSlice S8x1024x512 ![0, 0, 1536] z slices_S8x1024x2048_S8x1024x512_0_0_1536) shapeCasts_S8x1024x512_S8192x512

section names
variable (m : (ℓ : Loc nD τ sig) → Buf (Elt Ideal) ℓ) (c : Dev nD)

theorem res0_eq : Value.res_out0 m c = flat (turn (cut0 (refZ (refH (m ((c.tc : Thread nD τ).loc main_arg0)) (m ((c.tc : Thread nD τ).loc main_arg1)) (m ((c.tc : Thread nD τ).loc main_arg2))) (m ((c.tc : Thread nD τ).loc main_arg3))))) := rfl

theorem res1_eq : Value.res_out1 m c = flat (turn (cut1 (refZ (refH (m ((c.tc : Thread nD τ).loc main_arg0)) (m ((c.tc : Thread nD τ).loc main_arg1)) (m ((c.tc : Thread nD τ).loc main_arg2))) (m ((c.tc : Thread nD τ).loc main_arg3))))) := rfl

end names

variable (x : FVec Ideal S8x1024x1024 .f32) (md : FVec Ideal S16x6144 .f32) (g : FVec Ideal S1x1024 .f32) (w : FVec Ideal S1x1024x2048 .f32)

/-- The projection of one token. -/
theorem refZ_apply (s : Fin 8) (t : Fin 1024) (l : Fin 2048) :
    refZ (refH x md g) w (ix3 s t l) = Proj.projv (fun j => x (ix3 s t j)) (fun j => g (ix2 0 j)) (fun j => md (ix2 (Merge.seqRow s) (⟨1024 + j.val, by omega⟩ : Fin 6144)))
      (fun j => md (ix2 (Merge.seqRow s) (⟨j.val, by omega⟩ : Fin 6144))) (fun i => w (ix3 0 i l)) := by
  pointwise [refZ, refH, Merge.refMod]
  rfl

/-- The lane that the rotation pairs with a lane. -/
def mate (d : Fin 64) : Fin 64 := if h : d.val % 32 < 16 then ⟨d.val + 16, by omega⟩ else ⟨d.val - 16, by omega⟩

/-- The rotation at one lane. -/
theorem turn_apply (z : FVec Ideal S8x1024x4x2x64 .f32) (s : Fin 8) (t : Fin 1024) (h : Fin 4) (p : Fin 2) (d : Fin 64) :
    turn z (ix5 s t h p d) = z (ix5 s t h p d) * Ideal.cos (ang (ix2 t d))
      + (if d.val % 32 < 16 then -z (ix5 s t h p (mate d)) else z (ix5 s t h p (mate d))) * Ideal.sin (ang (ix2 t d)) := by
  pointwise [turn]
  refine congrArg₂ (fun a b : EReal => a + b) rfl (congrArg (fun a : EReal => a * Ideal.sin (ang (ix2 t d))) ?_)
  by_cases hd : d.val % 32 < 16
  · have e : mate d = ⟨d.val + 16, by omega⟩ := dif_pos hd
    rw [if_pos hd, e]
    split_ifs <;> first
      | omega
      | exact congrArg (fun k : Fin 64 => -z (ix5 s t h p k)) (Fin.ext (by first | rfl | (dsimp only; omega)))
  · have e : mate d = ⟨d.val - 16, by omega⟩ := dif_neg hd
    rw [if_neg hd, e]
    split_ifs <;> first
      | omega
      | exact congrArg (fun k : Fin 64 => z (ix5 s t h p k)) (Fin.ext (by first | rfl | (dsimp only; omega)))

theorem flat_apply (z : FVec Ideal S8x1024x4x2x64 .f32) (s : Fin 8) (t : Fin 1024) (r : Fin 8192) (hr : r.val = s.val * 1024 + t.val) (l : Fin 512) :
    flat z (ix2 r l) = z (ix5 s t (⟨l.val / 128, by omega⟩ : Fin 4) (⟨l.val / 64 % 2, by omega⟩ : Fin 2) (⟨l.val % 64, by omega⟩ : Fin 64)) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  pointwise [flat]
  rw [h1, h2]

theorem cut0_apply (z : FVec Ideal S8x1024x2048 .f32) (s : Fin 8) (t : Fin 1024) (h : Fin 4) (p : Fin 2) (d : Fin 64) :
    cut0 z (ix5 s t h p d) = z (ix3 s t (⟨h.val * 128 + p.val * 64 + d.val, by omega⟩ : Fin 2048)) := by
  pointwise [cut0]

theorem cut1_apply (z : FVec Ideal S8x1024x2048 .f32) (s : Fin 8) (t : Fin 1024) (h : Fin 4) (p : Fin 2) (d : Fin 64) :
    cut1 z (ix5 s t h p d) = z (ix3 s t (⟨512 + (h.val * 128 + p.val * 64 + d.val), by omega⟩ : Fin 2048)) := by
  pointwise [cut1]

theorem ref2_apply (z : FVec Ideal S8x1024x2048 .f32) (s : Fin 8) (t : Fin 1024) (r : Fin 8192) (hr : r.val = s.val * 1024 + t.val) (l : Fin 512) :
    ref2 z (ix2 r l) = z (ix3 s t (⟨1024 + l.val, by omega⟩ : Fin 2048)) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  pointwise [ref2]
  rw [h1, h2]

theorem ref3_apply (z : FVec Ideal S8x1024x2048 .f32) (s : Fin 8) (t : Fin 1024) (r : Fin 8192) (hr : r.val = s.val * 1024 + t.val) (l : Fin 512) :
    ref3 z (ix2 r l) = z (ix3 s t (⟨1536 + l.val, by omega⟩ : Fin 2048)) := by
  have h1 : (⟨r.val / 1024, by omega⟩ : Fin 8) = s := Fin.ext (by change r.val / 1024 = s.val; omega)
  have h2 : (⟨r.val % 1024, by omega⟩ : Fin 1024) = t := Fin.ext (by change r.val % 1024 = t.val; omega)
  pointwise [ref3]
  rw [h1, h2]

end Rope

end
-- ==== Proof.Rope.Packed.lean ====
/-
  The packed weights and the tables that the host code prepares for the latent stream's projection, entry by entry.
-/
module

public import proofs.«01_k».proof.Proof.Gen.RopeIdeal.Frame
public import proofs.«01_k».proof.Proof.Rope.Ref
public import Idealize.ShloMosaic.Lib.Pointwise

@[expose] public section

set_option maxRecDepth 16384

noncomputable section

namespace Rope

open Idealize.ShloMosaic Idealize.ShloMosaic.TcCoe Idealize.SL.Sem
open Cert.RopeIdeal Cert.RopeIdeal.Gen

/-- The columns of queries and keys, each map's quarters exchanged in pairs and the first of each pair negated. -/
def turned (w : FVec Ideal S1024x2048 .f32) : FVec Ideal S1024x1024 .f32 :=
  shapeCast _ (concatenate S1024x16x4x16 2
    [⟨S1024x16x1x16, broadcastInDim S1024x16x1x16 ![0, 1, 3] bcast_S1024x16x16_S1024x16x1x16_0_1_3 (Host.negf (shapeCast _ (extractStridedSlice S1024x16x1x16 ![0, 0, 1, 0] (shapeCast _ (extractStridedSlice S1024x1024 ![0, 0] w slices_S1024x2048_S1024x1024_0_0) shapeCasts_S1024x1024_S1024x16x4x16) slices_S1024x16x4x16_S1024x16x1x16_0_0_1_0) shapeCasts_S1024x16x1x16_S1024x16x16))⟩,
     ⟨S1024x16x1x16, broadcastInDim S1024x16x1x16 ![0, 1, 3] bcast_S1024x16x16_S1024x16x1x16_0_1_3 (shapeCast _ (extractStridedSlice S1024x16x1x16 ![0, 0, 0, 0] (shapeCast _ (extractStridedSlice S1024x1024 ![0, 0] w slices_S1024x2048_S1024x1024_0_0) shapeCasts_S1024x1024_S1024x16x4x16) slices_S1024x16x4x16_S1024x16x1x16_0_0_0_0) shapeCasts_S1024x16x1x16_S1024x16x16)⟩,
     ⟨S1024x16x1x16, broadcastInDim S1024x16x1x16 ![0, 1, 3] bcast_S1024x16x16_S1024x16x1x16_0_1_3 (Host.negf (shapeCast _ (extractStridedSlice S1024x16x1x16 ![0, 0, 3, 0] (shapeCast _ (extractStridedSlice S1024x1024 ![0, 0] w slices_S1024x2048_S1024x1024_0_0) shapeCasts_S1024x1024_S1024x16x4x16) slices_S1024x16x4x16_S1024x16x1x16_0_0_3_0) shapeCasts_S1024x16x1x16_S1024x16x16))⟩,
     ⟨S1024x16x1x16, broadcastInDim S1024x16x1x16 ![0, 1, 3] bcast_S1024x16x16_S1024x16x1x16_0_1_3 (shapeCast _ (extractStridedSlice S1024x16x1x16 ![0, 0, 2, 0] (shapeCast _ (extractStridedSlice S1024x1024 ![0, 0] w slices_S1024x2048_S1024x1024_0_0) shapeCasts_S1024x1024_S1024x16x4x16) slices_S1024x16x4x16_S1024x16x1x16_0_0_2_0) shapeCasts_S1024x16x1x16_S1024x16x16)⟩]
    concatenates_S1024x16x1x16_S1024x16x1x16_S1024x16x1x16_S1024x16x1x16_S1024x16x4x16_d2) shapeCasts_S1024x16x4x16_S1024x1024

/-- The packed weights: the columns as they are, and the turned ones behind them. -/
def packed (w : FVec Ideal S1x1024x2048 .f32) : FVec Ideal S1024x3072 .bf16 :=
  truncf .bf16 (concatenate S1024x3072 1 [⟨S1024x2048, shapeCast _ w shapeCasts_S1x1024x2048_S1024x2048⟩, ⟨S1024x1024, turned (shapeCast _ w shapeCasts_S1x1024x2048_S1024x2048)⟩] concatenates_S1024x2048_S1024x1024_S1024x3072_d1) bitsLt_bf16_f32

/-- A table of one map's lanes, repeated for all eight. -/
def tile (a : FVec Ideal S1024x64 .f32) : FVec Ideal S1024x512 .f32 :=
  shapeCast _ (broadcastInDim S1x1024x8x64 ![0, 1, 2, 3] bcast_S1x1024x1x64_S1x1024x8x64_0_1_2_3 (shapeCast _ a shapeCasts_S1024x64_S1x1024x1x64)) shapeCasts_S1x1024x8x64_S1024x512

theorem tile_apply (a : FVec Ideal S1024x64 .f32) (t : Fin 1024) (l : Fin 512) : tile a (ix2 t l) = a (ix2 t (⟨l.val % 64, by omega⟩ : Fin 64)) := by
  pointwise [tile]

theorem packed_plain (w : FVec Ideal S1x1024x2048 .f32) (i : Fin 1024) (l : Fin 2048) :
    packed w (ix2 i (⟨l.val, by omega⟩ : Fin 3072)) = w (ix3 0 i l) := by
  pointwise [packed]

set_option maxHeartbeats 4000000 in
/-- The turned columns at an entry: of a query's or key's column, its mate's, negated in the first half of each pair. -/
theorem packed_turned (w : FVec Ideal S1x1024x2048 .f32) (i : Fin 1024) (b : Fin 16) (d : Fin 64) (l : Fin 3072) (hl : l.val = 2048 + (b.val * 64 + d.val)) (k : Fin 2048)
    (hk : k.val = b.val * 64 + (mate d).val) :
    packed w (ix2 i l) = if d.val % 32 < 16 then -w (ix3 0 i k) else w (ix3 0 i k) := by
  have hm : (mate d).val = if d.val % 32 < 16 then d.val + 16 else d.val - 16 := by
    unfold mate
    split_ifs <;> rfl
  pointwise [packed, turned]
  have key : ∀ j : Fin 2048, j.val = k.val → @Eq EReal (w (ix3 0 i j)) (w (ix3 0 i k)) := fun j hj => congrArg (fun j : Fin 2048 => w (ix3 0 i j)) (Fin.ext hj)
  by_cases hd : d.val % 32 < 16
  · rw [if_pos hd] at hm ⊢
    split_ifs <;> first
      | omega
      | exact congrArg (fun z : EReal => -z) (key _ (by dsimp only; omega))
  · rw [if_neg hd] at hm ⊢
    split_ifs <;> first
      | omega
      | exact key _ (by dsimp only; omega)

end Rope

end
-- ==== Proof.Rope.Blocks.lean ====
/-
  The blocks that one grid point of the latent stream's projection reads, in terms of the arguments as launched: 256
  tokens of one sequence, that sequence's modulation, the gain, the packed weights whole, and those tokens' rotary table.
-/
module

public import proofs.«01_k».proof.Proof.Gen.RopeIdeal.Frame
public import proofs.«01_k».proof.Proof.Rope.Packed
public import Idealize.ShloMosaic.Lib.Pointwise
public import Idealize.ShloMosaic.Lib.Pipeline.ValueKit

@[expose] public section

set_option maxRecDepth 16384

noncomputable section

namespace Rope

open Idealize.ShloMosaic Idealize.ShloMosaic.TcCoe Idealize.SL.Sem
open Cert.RopeIdeal Cert.RopeIdeal.Gen

/-- The grid point's number. -/
def pt (t : Fin cfg0.N) : Fin 32 := grid0.coords t 0

/-- The sequence of a grid point: four points to each. -/
def seqOf (t : Fin cfg0.N) : Fin 8 := ⟨(pt t).val / 4, by have := (pt t).isLt; omega⟩

/-- The token of its sequence that a point's row `r` is. -/
def tok (t : Fin cfg0.N) (r : Fin 256) : Fin 1024 := ⟨(pt t).val % 4 * 256 + r.val, by omega⟩

/-- The windows' block indices at a point. -/
theorem idx (t : Fin cfg0.N) :
    win0_0.index t = ![(pt t).val, 0] ∧ win0_1.index t = ![1 + (seqOf t).val, 0, 0] ∧ win0_2.index t = ![0, 0]
    ∧ win0_3.index t = ![0, 0] ∧ win0_4.index t = ![(pt t).val % 4, 0] ∧ win0_5.index t = ![(pt t).val % 4, 0]
    ∧ win0_6.index t = ![(pt t).val, 0] ∧ win0_7.index t = ![(pt t).val, 0] ∧ win0_8.index t = ![(pt t).val, 0]
    ∧ win0_9.index t = ![(pt t).val, 0] := by
  revert t
  decide +kernel

variable (m : (ℓ : Loc nD τ sig) → Buf (Elt Ideal) ℓ) (c : Dev nD) (t : Fin cfg0.N)

set_option maxHeartbeats 4000000 in
/-- The packed weights, the two tables: as the host code leaves them. -/
theorem host3 : V m c main_v24 = packed (m ((c.tc : Thread nD τ).loc main_arg3)) := by
  change StableHlo.after hostOps0 (fun b => m (c, b)) (Proc.devRef .tc main_v24) = _
  simp only [StableHlo.after_cons, StableHlo.after_nil]
  after_results_steps
  rfl

set_option maxHeartbeats 4000000 in
theorem host4 : V m c main_v54 = tile (Host.cos ang) := by
  change StableHlo.after hostOps0 (fun b => m (c, b)) (Proc.devRef .tc main_v54) = _
  simp only [StableHlo.after_cons, StableHlo.after_nil]
  after_results_steps
  rfl

set_option maxHeartbeats 4000000 in
theorem host5 : V m c main_v58 = tile (Host.sin ang) := by
  change StableHlo.after hostOps0 (fun b => m (c, b)) (Proc.devRef .tc main_v58) = _
  simp only [StableHlo.after_cons, StableHlo.after_nil]
  after_results_steps
  rfl

theorem blk0 (r : Fin 256) (i : Fin 1024) : iblk m c 0 t (ix2 r i) = m ((c.tc : Thread nD τ).loc main_arg0) (ix3 (seqOf t) (tok t r) i) := by
  have h1 : ((pt t).val * 256 + r.val) / 1024 = (seqOf t).val := by change _ = (pt t).val / 4; omega
  have h2 : ((pt t).val * 256 + r.val) % 1024 = (tok t r).val := by change _ = (pt t).val % 4 * 256 + r.val; omega
  blk_ext! [iblk, V, idx t]

theorem blk1 (k : Fin 6) (i : Fin 1024) (l : Fin 6144) (hl : l.val = k.val * 1024 + i.val) :
    iblk m c 1 t (ix3 0 k i) = m ((c.tc : Thread nD τ).loc main_arg1) (ix2 (Merge.seqRow (seqOf t)) l) := by
  have h1 : (Merge.seqRow (seqOf t)).val = 1 + (seqOf t).val := rfl
  blk_ext! [iblk, V, idx t]

theorem blk2 (i : Fin 1024) : iblk m c 2 t (ix2 0 i) = m ((c.tc : Thread nD τ).loc main_arg2) (ix2 0 i) := by
  blk_ext! [iblk, V, idx t]

theorem blk3 (i : Fin 1024) (l : Fin 3072) : @Eq EReal (iblk m c 3 t (ix2 i l)) (packed (m ((c.tc : Thread nD τ).loc main_arg3)) (ix2 i l)) := by
  have he : ((cfg0.win 3).blk t).view.emb (ix2 i l) = (ix2 i l : S1024x3072.Idx) := by blk_ext [idx t]
  exact (congrArg (V m c main_v24) he).trans (congrFun (host3 m c) _)

theorem blk4 (r : Fin 256) (l : Fin 512) : @Eq EReal (iblk m c 4 t (ix2 r l)) (Ideal.cos (ang (ix2 (tok t r) (⟨l.val % 64, by omega⟩ : Fin 64)))) := by
  have he : ((cfg0.win 4).blk t).view.emb (ix2 r l) = (ix2 (tok t r) l : S1024x512.Idx) := by
    have h2 : (tok t r).val = (pt t).val % 4 * 256 + r.val := rfl
    blk_ext [idx t]
  exact ((congrArg (V m c main_v54) he).trans (congrFun (host4 m c) _)).trans (tile_apply _ _ _)

theorem blk5 (r : Fin 256) (l : Fin 512) : @Eq EReal (iblk m c 5 t (ix2 r l)) (Ideal.sin (ang (ix2 (tok t r) (⟨l.val % 64, by omega⟩ : Fin 64)))) := by
  have he : ((cfg0.win 5).blk t).view.emb (ix2 r l) = (ix2 (tok t r) l : S1024x512.Idx) := by
    have h2 : (tok t r).val = (pt t).val % 4 * 256 + r.val := rfl
    blk_ext [idx t]
  exact ((congrArg (V m c main_v58) he).trans (congrFun (host5 m c) _)).trans (tile_apply _ _ _)

end Rope

end
-- ==== Proof.Rope.Finite.lean ====
/-
  Which operations keep real numbers real among the extended reals: sums, products, negations, finite sums, and the
  normalised row of real arrays; and a finite sum's negation, term by term, where all its terms are real.
-/
module

public import proofs.«01_k».proof.Proof.Merge.Math

@[expose] public section

noncomputable section

namespace Rope

open Idealize.ShloMosaic

/-- The extended real is a real number. -/
def IsReal (x : EReal) : Prop := ∃ r : ℝ, x = r

theorem IsReal.coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- A real number less itself is zero. -/
theorem IsReal.sub_self {x : EReal} (hx : IsReal x) : x - x = 0 := by
  obtain ⟨a, rfl⟩ := hx
  rw [← EReal.coe_sub, _root_.sub_self]
  rfl

theorem IsReal.sum {κ : Type*} (s : Finset κ) {f : κ → EReal} (hf : ∀ k, IsReal (f k)) : IsReal (∑ k ∈ s, f k) := by
  classical
  induction s using Finset.induction_on with
  | empty => exact ⟨0, by simp⟩
  | insert a s ha ih => rw [Finset.sum_insert ha]; exact (hf a).add ih

/-- The negation of a sum of real numbers is the sum of the negations. -/
theorem neg_sum {κ : Type*} (s : Finset κ) {f : κ → EReal} (hf : ∀ k, IsReal (f k)) : ∑ k ∈ s, -f k = -∑ k ∈ s, f k := by
  classical
  induction s using Finset.induction_on with
  | empty => simp
  | insert a s ha ih =>
    rw [Finset.sum_insert ha, Finset.sum_insert ha, ih]
    obtain ⟨x, hx⟩ := hf a
    obtain ⟨y, hy⟩ := IsReal.sum s hf
    rw [hx, hy, ← EReal.coe_neg, ← EReal.coe_neg, ← EReal.coe_add, ← EReal.coe_add, ← EReal.coe_neg]
    exact congrArg _ (by ring)

/-- The words of the row's length and of the small constant under the root. -/
theorem width_word : Ideal.ofBits FTy.f32 1149239296#32 = ((1024 : ℝ) : EReal) := by
  rw [Ideal.ofBits]
  simp [Ideal.ieee]
  rw [← EReal.coe_mul]
  norm_num

theorem eps_word : ∃ e : ℝ, 0 < e ∧ Ideal.ofBits FTy.f32 897988541#32 = (e : EReal) := by
  rw [Ideal.ofBits]
  simp only [Ideal.ieee]
  refine ⟨_, ?_, by simp; rfl⟩
  positivity

/-- A real row's normalisation with real gain, scale and shift is real. -/
theorem real_normed (x g sc sh : Fin 1024 → EReal) (hx : ∀ j, IsReal (x j)) (hg : ∀ j, IsReal (g j)) (hc : ∀ j, IsReal (sc j))
    (hh : ∀ j, IsReal (sh j)) (j : Fin 1024) : IsReal (Merge.normed x g sc sh j) := by
  obtain ⟨e, he, hw⟩ := eps_word
  choose r hr using hx
  have hs : ∃ q : ℝ, 0 ≤ q ∧ ∑ i, x i * x i = (q : EReal) := by
    refine ⟨∑ i, r i * r i, Finset.sum_nonneg fun i _ => mul_self_nonneg (r i), ?_⟩
    simp only [hr, ← EReal.coe_mul]
    exact (map_sum (⟨⟨fun a : ℝ => (a : EReal), rfl⟩, EReal.coe_add⟩ : ℝ →+ EReal) (fun i => r i * r i) Finset.univ).symm
  obtain ⟨q, hq, hqs⟩ := hs
  have hroot : IsReal (Ideal.rsqrt (Ideal.div (∑ i, x i * x i) (Ideal.ofBits FTy.f32 1149239296#32) + Ideal.ofBits FTy.f32 897988541#32)) := by
    have hp : 0 < q * (1 / 1024) + e := by positivity
    rw [hqs, width_word, hw, Ideal.div_coe (by norm_num), ← EReal.coe_mul, ← EReal.coe_add, Ideal.rsqrt_coe,
      if_neg (not_lt.2 hp.le), if_neg hp.ne']
    exact .coe _
  unfold Merge.normed
  refine ((((IsReal.mul ⟨r j, hr j⟩ hroot).mul (hg j)).mul (.add ⟨1, rfl⟩ (hc j)))).add (hh j)

end Rope

end
-- ==== Proof.Rope.Array.lean ====
/-
  The latent stream's projection's four arrays after the run: the reference's results of the same arguments, where all
  arguments are real. A turned column's product is the mate's product with its sign.
-/
module

public import proofs.«01_k».proof.Proof.Gen.RopeIdeal.Value
public import proofs.«01_k».proof.Proof.Rope.Block
public import proofs.«01_k».proof.Proof.Rope.Blocks
public import proofs.«01_k».proof.Proof.Rope.Finite

@[expose] public section

set_option maxRecDepth 16384

noncomputable section

namespace Rope

open Idealize.ShloMosaic Idealize.ShloMosaic.TcCoe Idealize.SL.Sem
open Cert.RopeIdeal Cert.RopeIdeal.Gen

variable (m : (ℓ : Loc nD τ sig) → Buf (Elt Ideal) ℓ) (c : Dev nD)

/-- The reference's projection of the kernel's arguments. -/
def goalZ : FVec Ideal Cert.RopeReferenceIdeal.S8x1024x2048 .f32 :=
  refZ (refH (m ((c.tc : Thread nD τ).loc main_arg0)) (m ((c.tc : Thread nD τ).loc main_arg1)) (m ((c.tc : Thread nD τ).loc main_arg2))) (m ((c.tc : Thread nD τ).loc main_arg3))

/-- The normalised entry of one token of the kernel's arguments. -/
def unit (s : Fin 8) (q : Fin 1024) (i : Fin 1024) : EReal :=
  Merge.normed (fun j => m ((c.tc : Thread nD τ).loc main_arg0) (ix3 s q j)) (fun j => m ((c.tc : Thread nD τ).loc main_arg2) (ix2 0 j))
    (fun j => m ((c.tc : Thread nD τ).loc main_arg1) (ix2 (Merge.seqRow s) (⟨1024 + j.val, by omega⟩ : Fin 6144)))
    (fun j => m ((c.tc : Thread nD τ).loc main_arg1) (ix2 (Merge.seqRow s) (⟨j.val, by omega⟩ : Fin 6144))) i

theorem goalZ_apply (s : Fin 8) (q : Fin 1024) (l : Fin 2048) :
    goalZ m c (ix3 s q l) = ∑ i, @HMul.hMul EReal EReal EReal _ (unit m c s q i) (m ((c.tc : Thread nD τ).loc main_arg3) (ix3 0 i l)) := by
  unfold goalZ
  exact refZ_apply _ _ _ _ s q l

variable (t : Fin cfg0.N)

/-- The flat row of a point's token. -/
theorem tok_flat (r : Fin 256) (f : Fin 8192) (hf : f.val = (pt t).val * 256 + r.val) : f.val = (seqOf t).val * 1024 + (tok t r).val := by
  change f.val = (pt t).val / 4 * 1024 + ((pt t).val % 4 * 256 + r.val)
  omega

/-- A point's projection at a column of the packed weights. -/
theorem rowZ_packed (r : Fin 256) (l : Fin 3072) :
    rowZ (iblk m c 0 t) (iblk m c 1 t) (iblk m c 2 t) (iblk m c 3 t) r l
      = ∑ i, @HMul.hMul EReal EReal EReal _ (unit m c (seqOf t) (tok t r) i) (packed (m ((c.tc : Thread nD τ).loc main_arg3)) (ix2 i l)) := by
  have e0 : (fun i => iblk m c 0 t (ix2 r i)) = fun i => m ((c.tc : Thread nD τ).loc main_arg0) (ix3 (seqOf t) (tok t r) i) := funext fun i => blk0 m c t r i
  have e1 : (fun j => iblk m c 1 t (ix3 0 1 j)) = fun j => m ((c.tc : Thread nD τ).loc main_arg1) (ix2 (Merge.seqRow (seqOf t)) (⟨1024 + j.val, by omega⟩ : Fin 6144)) := funext fun j => blk1 m c t 1 j _ rfl
  have e2 : (fun j => iblk m c 1 t (ix3 0 0 j)) = fun j => m ((c.tc : Thread nD τ).loc main_arg1) (ix2 (Merge.seqRow (seqOf t)) (⟨j.val, by omega⟩ : Fin 6144)) := funext fun j => blk1 m c t 0 j _ (by change j.val = 0 * 1024 + j.val; omega)
  have e3 : (fun i => iblk m c 2 t (ix2 0 i)) = fun i => m ((c.tc : Thread nD τ).loc main_arg2) (ix2 0 i) := funext fun i => blk2 m c t i
  have e4 : (fun i => iblk m c 3 t (ix2 i l)) = fun i => packed (m ((c.tc : Thread nD τ).loc main_arg3)) (ix2 i l) := funext fun i => blk3 m c t i l
  unfold rowZ
  rw [e0, e1, e2, e3, e4]
  rfl

/-- At one of the weights' own columns it is the reference's, -/
theorem rowZ_plain (r : Fin 256) (l : Fin 3072) (k : Fin 2048) (hk : l.val = k.val) :
    rowZ (iblk m c 0 t) (iblk m c 1 t) (iblk m c 2 t) (iblk m c 3 t) r l = goalZ m c (ix3 (seqOf t) (tok t r) k) := by
  have e : l = ⟨k.val, by omega⟩ := Fin.ext hk
  rw [e, rowZ_packed, goalZ_apply]
  simp only [packed_plain]

variable (hx : ∀ i, IsReal (m ((c.tc : Thread nD τ).loc main_arg0) i)) (hm : ∀ i, IsReal (m ((c.tc : Thread nD τ).loc main_arg1) i))
  (hg : ∀ i, IsReal (m ((c.tc : Thread nD τ).loc main_arg2) i)) (hw : ∀ i, IsReal (m ((c.tc : Thread nD τ).loc main_arg3) i))

include hx hm hg hw

/-- and at a turned column the mate's, with its sign. -/
theorem rowZ_turned (r : Fin 256) (l : Fin 3072) (b : Fin 16) (d : Fin 64) (hl : l.val = 2048 + (b.val * 64 + d.val)) (k : Fin 2048) (hk : k.val = b.val * 64 + (mate d).val) :
    rowZ (iblk m c 0 t) (iblk m c 1 t) (iblk m c 2 t) (iblk m c 3 t) r l
      = if d.val % 32 < 16 then -goalZ m c (ix3 (seqOf t) (tok t r) k) else goalZ m c (ix3 (seqOf t) (tok t r) k) := by
  rw [rowZ_packed, goalZ_apply]
  simp only [packed_turned _ _ b d l hl k hk]
  split
  · simp only [mul_neg]
    exact neg_sum _ fun i => .mul (real_normed _ _ _ _ (fun _ => hx _) (fun _ => hg _) (fun _ => hm _) (fun _ => hm _) i) (hw _)
  · rfl

theorem point6 (r : Fin 256) (j : Fin 512) (f : Fin 8192) (l : Fin 512) (hf : f.val = (pt t).val * 256 + r.val) (hl : l.val = j.val) :
    out0_6 (iblk m c 0 t) (iblk m c 1 t) (iblk m c 2 t) (iblk m c 3 t) (iblk m c 4 t) (iblk m c 5 t) (ix2 r j) = flat (turn (cut0 (goalZ m c))) (ix2 f l) := by
  obtain rfl : l = j := Fin.ext hl
  rw [out6, flat_apply _ (seqOf t) (tok t r) f (tok_flat t r f hf), turn_apply, cut0_apply, cut0_apply, blk4, blk5,
    rowZ_turned m c t hx hm hg hw r (⟨2048 + l.val, by omega⟩ : Fin 3072) (⟨l.val / 64, by omega⟩ : Fin 16) (⟨l.val % 64, by omega⟩ : Fin 64) (by dsimp only; omega)
      (⟨l.val / 128 * 128 + l.val / 64 % 2 * 64 + (mate ⟨l.val % 64, by omega⟩).val, by omega⟩ : Fin 2048) (by dsimp only; omega),
    rowZ_plain m c t r (⟨l.val, by omega⟩ : Fin 3072) (⟨l.val / 128 * 128 + l.val / 64 % 2 * 64 + l.val % 64, by omega⟩ : Fin 2048) (by dsimp only; omega)]

theorem point7 (r : Fin 256) (j : Fin 512) (f : Fin 8192) (l : Fin 512) (hf : f.val = (pt t).val * 256 + r.val) (hl : l.val = j.val) :
    out0_7 (iblk m c 0 t) (iblk m c 1 t) (iblk m c 2 t) (iblk m c 3 t) (iblk m c 4 t) (iblk m c 5 t) (ix2 r j) = flat (turn (cut1 (goalZ m c))) (ix2 f l) := by
  obtain rfl : l = j := Fin.ext hl
  rw [out7, flat_apply _ (seqOf t) (tok t r) f (tok_flat t r f hf), turn_apply, cut1_apply, cut1_apply, blk4, blk5,
    rowZ_turned m c t hx hm hg hw r (⟨2560 + l.val, by omega⟩ : Fin 3072) (⟨8 + l.val / 64, by omega⟩ : Fin 16) (⟨l.val % 64, by omega⟩ : Fin 64) (by dsimp only; omega)
      (⟨512 + (l.val / 128 * 128 + l.val / 64 % 2 * 64 + (mate ⟨l.val % 64, by omega⟩).val), by omega⟩ : Fin 2048) (by dsimp only; omega),
    rowZ_plain m c t r (⟨512 + l.val, by omega⟩ : Fin 3072) (⟨512 + (l.val / 128 * 128 + l.val / 64 % 2 * 64 + l.val % 64), by omega⟩ : Fin 2048) (by dsimp only; omega)]

omit hx hm hg hw

theorem point8 (r : Fin 256) (j : Fin 512) (f : Fin 8192) (l : Fin 512) (hf : f.val = (pt t).val * 256 + r.val) (hl : l.val = j.val) :
    out0_8 (iblk m c 0 t) (iblk m c 1 t) (iblk m c 2 t) (iblk m c 3 t) (iblk m c 4 t) (iblk m c 5 t) (ix2 r j) = ref2 (goalZ m c) (ix2 f l) := by
  obtain rfl : l = j := Fin.ext hl
  rw [out8, ref2_apply _ (seqOf t) (tok t r) f (tok_flat t r f hf)]
  exact rowZ_plain m c t r (⟨1024 + l.val, by omega⟩ : Fin 3072) (⟨1024 + l.val, by omega⟩ : Fin 2048) rfl

theorem point9 (r : Fin 256) (j : Fin 512) (f : Fin 8192) (l : Fin 512) (hf : f.val = (pt t).val * 256 + r.val) (hl : l.val = j.val) :
    out0_9 (iblk m c 0 t) (iblk m c 1 t) (iblk m c 2 t) (iblk m c 3 t) (iblk m c 4 t) (iblk m c 5 t) (ix2 r j) = ref3 (goalZ m c) (ix2 f l) := by
  obtain rfl : l = j := Fin.ext hl
  rw [out9, ref3_apply _ (seqOf t) (tok t r) f (tok_flat t r f hf)]
  exact rowZ_plain m c t r (⟨1536 + l.val, by omega⟩ : Fin 3072) (⟨1536 + l.val, by omega⟩ : Fin 2048) rfl

include hx hm hg hw

/-- The rotated queries after the run, -/
theorem array6 : (dats m 0 c).arrAt 6 cfg0.N = flat (turn (cut0 (goalZ m c))) := by
  refine (dats m 0 c).arrAt_eq_of_covers 6 _ (by decide +kernel) fun t hf y => ?_
  blk_simp
  rw [after0_6]
  idx_vars y
  exact (point6 m c t hx hm hg hw y0 y1 _ _ (by blk_ext [idx t]) (by blk_ext [idx t])).trans (congrArg _ (eq_ix2 _).symm)

/-- the rotated keys, -/
theorem array7 : (dats m 0 c).arrAt 7 cfg0.N = flat (turn (cut1 (goalZ m c))) := by
  refine (dats m 0 c).arrAt_eq_of_covers 7 _ (by decide +kernel) fun t hf y => ?_
  blk_simp
  rw [after0_7]
  idx_vars y
  exact (point7 m c t hx hm hg hw y0 y1 _ _ (by blk_ext [idx t]) (by blk_ext [idx t])).trans (congrArg _ (eq_ix2 _).symm)

omit hx hm hg hw

/-- the values, -/
theorem array8 : (dats m 0 c).arrAt 8 cfg0.N = ref2 (goalZ m c) := by
  refine (dats m 0 c).arrAt_eq_of_covers 8 _ (by decide +kernel) fun t hf y => ?_
  blk_simp
  rw [after0_8]
  idx_vars y
  exact (point8 m c t y0 y1 _ _ (by blk_ext [idx t]) (by blk_ext [idx t])).trans (congrArg _ (eq_ix2 _).symm)

/-- and the Fourier mixing's lanes. -/
theorem array9 : (dats m 0 c).arrAt 9 cfg0.N = ref3 (goalZ m c) := by
  refine (dats m 0 c).arrAt_eq_of_covers 9 _ (by decide +kernel) fun t hf y => ?_
  blk_simp
  rw [after0_9]
  idx_vars y
  exact (point9 m c t y0 y1 _ _ (by blk_ext [idx t]) (by blk_ext [idx t])).trans (congrArg _ (eq_ix2 _).symm)

end Rope

end
-- ==== Proof.Rope.Pre.lean ====
/-
  What the precondition `finite_inputs` says: each element of the latent stream, of the modulation, of the gain and of
  the weights is a real number.
-/
module

public import proofs.«01_k».proof.Pre_finite_inputs
public import proofs.«01_k».proof.Proof.Attn.Pre
public import proofs.«01_k».proof.Proof.Rope.Finite

@[expose] public section

noncomputable section

namespace Rope

open Idealize.ShloMosaic

variable [Cert.Pre_finite_inputs.Facts]

/-- The four arrays of the precondition. -/
theorem real_of_pre (x : FVec Ideal ⟨3, ![8, 1024, 1024]⟩ .f32) (md : FVec Ideal ⟨2, ![16, 6144]⟩ .f32) (g : FVec Ideal ⟨2, ![1, 1024]⟩ .f32)
    (w : FVec Ideal ⟨3, ![1, 1024, 2048]⟩ .f32) (h : Cert.Pre_finite_inputs.fn x md g w = fun _ => 1#1) :
    (∀ i, IsReal (x i)) ∧ (∀ i, IsReal (md i)) ∧ (∀ i, IsReal (g i)) ∧ (∀ i, IsReal (w i)) := by
  have h := congrFun h (fun k => k.elim0)
  obtain ⟨h1, h2⟩ := IntOp.andi_eq_one.1 h
  obtain ⟨h3, h4⟩ := IntOp.andi_eq_one.1 h1
  obtain ⟨h5, h6⟩ := IntOp.andi_eq_one.1 h3
  exact ⟨Attn.real_of_all x _ _ _ _ h5, Attn.real_of_all md _ _ _ _ h6, Attn.real_of_all g _ _ _ _ h4, Attn.real_of_all w _ _ _ _ h2⟩

end Rope

end
-- ==== Proof.Fourier.Block.lean ====
/-
  What the Fourier kernel stores at one grid point, from the blocks that the point reads. Each factor is held in two
  parts, of which the second is what rounding leaves over; over ideal arithmetic it is zero, so each product of parts is
  the product of the factors.
-/
module

public import proofs.«01_k».proof.Proof.Gen.FourierIdeal.Frame
public import proofs.«01_k».proof.Proof.Rope.Finite
public import Idealize.ShloMosaic.Lib.Pointwise
public import Idealize.ShloMosaic.Lib.Pipeline.ValueKit

@[expose] public section

set_option maxRecDepth 16384

noncomputable section

namespace Fourier

open Idealize.ShloMosaic Idealize.ShloMosaic.TcCoe Idealize.SL.Sem
open Cert.FourierIdeal Cert.FourierIdeal.Gen

variable (x0 : Vec Ideal S1024x512 .f32) (x1 x2 x3 x4 : Vec Ideal S1024x1024 .bf16) (x5 x6 x7 x8 : Vec Ideal S128x128 .bf16)
  (x9 : Vec Ideal S4x128x128 .bf16)

/-- The sequence's transform of a block, where the block is real and the matrix has no second part. -/
theorem pay4_apply (h0 : ∀ s l, Rope.IsReal (x0 (ix2 s l))) (h2 : ∀ i j, @Eq EReal (x2 (ix2 i j)) 0) (t : Fin 1024) (l : Fin 512) :
    k0_pay4 x0 x1 x2 (ix2 t l) = ∑ s : Fin 1024, @HMul.hMul EReal EReal EReal _ (x1 (ix2 t s)) (x0 (ix2 s l)) := by
  have z : ∀ s, @Eq EReal (@HSub.hSub EReal EReal EReal _ (x0 (ix2 s l)) (x0 (ix2 s l))) 0 := fun s => (h0 s l).sub_self
  pointwise [k0_pay4, k0_pay2, k0_pay3]
  simp only [z, h2, mul_zero, zero_mul, Finset.sum_const_zero, add_zero]

/-- The same of the sines. -/
theorem pay5_eq : k0_pay5 x0 x3 x4 = k0_pay4 x0 x3 x4 := rfl

variable (a b : FVec Ideal S1024x512 .f32)

/-- A group's entry from the two transforms: the columns `col` of the first under the cosines, less those of the second
    under the sines, and that row under the group's weights. -/
def mixAt (col : Fin 128 → Fin 512) (g : Fin 4) (t : Fin 1024) (d : Fin 128) : EReal :=
  ∑ e : Fin 128, @HMul.hMul EReal EReal EReal _ (@HSub.hSub EReal EReal EReal _ (∑ k : Fin 128, @HMul.hMul EReal EReal EReal _ (a (ix2 t (col k))) (x5 (ix2 k e)))
    (∑ k : Fin 128, @HMul.hMul EReal EReal EReal _ (b (ix2 t (col k))) (x7 (ix2 k e)))) (x9 (ix3 g e d))

section pieces
variable (ha : ∀ t l, @Eq EReal (@HSub.hSub EReal EReal EReal _ (a (ix2 t l)) (a (ix2 t l))) 0) (hb : ∀ t l, @Eq EReal (@HSub.hSub EReal EReal EReal _ (b (ix2 t l)) (b (ix2 t l))) 0)
  (h6 : ∀ i j, @Eq EReal (x6 (ix2 i j)) 0) (h8 : ∀ i j, @Eq EReal (x8 (ix2 i j)) 0)
include ha hb h6 h8

/-- The four groups' payloads. -/
theorem group3 (t : Fin 1024) (d : Fin 128) :
    k0_pay1 (k0_pay32 b) (k0_pay33 b) (k0_pay34 a x5 x6) (k0_pay35 x7) x8 (View.ld x9 r0_9) (ix2 t d)
      = mixAt x5 x7 x9 a b (fun k => ⟨384 + k.val, by omega⟩) 3 t d := by
  pointwise [k0_pay1, k0_pay31, k0_pay32, k0_pay33, k0_pay34, k0_pay35]
  simp only [ha, hb, h6, h8, mul_zero, zero_mul, Finset.sum_const_zero, add_zero]
  rfl

theorem group2 (t : Fin 1024) (d : Fin 128) :
    k0_pay30 (k0_pay27 b) (k0_pay28 b) (k0_pay29 a x5 x6) x7 x8 (View.ld x9 r0_7) (ix2 t d)
      = mixAt x5 x7 x9 a b (fun k => ⟨256 + k.val, by omega⟩) 2 t d := by
  pointwise [k0_pay30, k0_pay26, k0_pay27, k0_pay28, k0_pay29]
  simp only [ha, hb, h6, h8, mul_zero, zero_mul, Finset.sum_const_zero, add_zero]
  rfl

theorem group1 (t : Fin 1024) (d : Fin 128) :
    k0_pay25 (k0_pay19 b) (k0_pay20 b) (k0_pay22 a x5) (k0_pay23 a x6) (k0_pay24 a x5) x7 x8 (View.ld x9 r0_5) (ix2 t d)
      = mixAt x5 x7 x9 a b (fun k => ⟨128 + k.val, by omega⟩) 1 t d := by
  pointwise [k0_pay25, k0_pay16, k0_pay17, k0_pay18, k0_pay19, k0_pay20, k0_pay21, k0_pay22, k0_pay23, k0_pay24]
  simp only [ha, hb, h6, h8, mul_zero, zero_mul, Finset.sum_const_zero, add_zero]
  rfl

omit ha hb
theorem group0 (ha : ∀ t l, @Eq EReal (@HSub.hSub EReal EReal EReal _ (k0_pay4 x0 x1 x2 (ix2 t l)) (k0_pay4 x0 x1 x2 (ix2 t l))) 0)
    (hb : ∀ t l, @Eq EReal (@HSub.hSub EReal EReal EReal _ (k0_pay5 x0 x3 x4 (ix2 t l)) (k0_pay5 x0 x3 x4 (ix2 t l))) 0) (t : Fin 1024) (d : Fin 128) :
    k0_pay15 (k0_pay7 x0 x1 x2) (k0_pay8 x0 x1 x2) (k0_pay10 x0 x3 x4) (k0_pay11 x0 x3 x4) (k0_pay12 x5) (k0_pay13 x6) (k0_pay14 x0 x1 x2 x5) x7 x8 (View.ld x9 r0_3) (ix2 t d)
      = mixAt x5 x7 x9 (k0_pay4 x0 x1 x2) (k0_pay5 x0 x3 x4) (fun k => ⟨k.val, by omega⟩) 0 t d := by
  pointwise [k0_pay15, k0_pay6, k0_pay7, k0_pay8, k0_pay9, k0_pay10, k0_pay11, k0_pay12, k0_pay13, k0_pay14]
  simp only [ha, hb, h6, h8, mul_zero, zero_mul, Finset.sum_const_zero, add_zero]
  rfl

end pieces

/-- The transforms of real blocks under real matrices are real, so nothing is left over of them. -/
theorem pay4_rest (h0 : ∀ s l, Rope.IsReal (x0 (ix2 s l))) (h1 : ∀ i j, Rope.IsReal (x1 (ix2 i j))) (h2 : ∀ i j, @Eq EReal (x2 (ix2 i j)) 0) (t : Fin 1024) (l : Fin 512) :
    @Eq EReal (@HSub.hSub EReal EReal EReal _ (k0_pay4 x0 x1 x2 (ix2 t l)) (k0_pay4 x0 x1 x2 (ix2 t l))) 0 := by
  rw [pay4_apply x0 x1 x2 h0 h2]
  exact (Rope.IsReal.sum Finset.univ fun s => (h1 t s).mul (h0 s l)).sub_self

set_option maxHeartbeats 4000000 in
/-- The block that a point stores. -/
theorem out10 (h0 : ∀ s l, Rope.IsReal (x0 (ix2 s l))) (h1 : ∀ i j, Rope.IsReal (x1 (ix2 i j))) (h2 : ∀ i j, @Eq EReal (x2 (ix2 i j)) 0)
    (h3 : ∀ i j, Rope.IsReal (x3 (ix2 i j))) (h4 : ∀ i j, @Eq EReal (x4 (ix2 i j)) 0) (h6 : ∀ i j, @Eq EReal (x6 (ix2 i j)) 0) (h8 : ∀ i j, @Eq EReal (x8 (ix2 i j)) 0)
    (t : Fin 1024) (l : Fin 512) : out0_10 x0 x1 x2 x3 x4 x5 x6 x7 x8 x9 (ix2 t l)
      = mixAt x5 x7 x9 (k0_pay4 x0 x1 x2) (k0_pay5 x0 x3 x4) (fun k => ⟨l.val / 128 * 128 + k.val, by omega⟩) ⟨l.val / 128, by omega⟩ t ⟨l.val % 128, by omega⟩ := by
  have ra := pay4_rest x0 x1 x2 h0 h1 h2
  have rb := pay4_rest x0 x3 x4 h0 h3 h4
  unfold_out out0_10
  frame_out
  refine (View.canon_apply_of_pieces (Val := Elt Ideal) (S := S1024x512) (e := .bf16)
    (fun y => mixAt x5 x7 x9 (k0_pay4 x0 x1 x2) (k0_pay5 x0 x3 x4) (fun k => ⟨(y 1).val / 128 * 128 + k.val, by have := (y 1).isLt; change (y 1).val < 512 at this; omega⟩)
      ⟨(y 1).val / 128, by have := (y 1).isLt; change (y 1).val < 512 at this; omega⟩ (y 0) ⟨(y 1).val % 128, by omega⟩) _ ?_ (ix2 t l) (cover0_10 _ _ _ _ _)).trans rfl
  have key : ∀ (col : Fin 128 → Fin 512) (g : Fin 4) (t : Fin 1024) (d : Fin 128) (y : S1024x512.Idx), (∀ k, (col k).val = g.val * 128 + k.val) → (y 0).val = t.val → (y 1).val = g.val * 128 + d.val →
      mixAt x5 x7 x9 (k0_pay4 x0 x1 x2) (k0_pay5 x0 x3 x4) col g t d
        = mixAt x5 x7 x9 (k0_pay4 x0 x1 x2) (k0_pay5 x0 x3 x4) (fun k => ⟨(y 1).val / 128 * 128 + k.val, by have := (y 1).isLt; change (y 1).val < 512 at this; omega⟩)
      ⟨(y 1).val / 128, by have := (y 1).isLt; change (y 1).val < 512 at this; omega⟩ (y 0) ⟨(y 1).val % 128, by omega⟩ := by
    intro col g t d y hc h0 h1
    congr 1
    · funext k
      exact Fin.ext (by dsimp only; rw [hc, h1]; omega)
    · exact Fin.ext (by dsimp only; omega)
    · exact Fin.ext h0.symm
    · exact Fin.ext (by dsimp only; omega)
  intro p hp
  simp only [List.mem_cons, List.not_mem_nil, or_false] at hp
  rcases hp with rfl | rfl | rfl | rfl <;> intro y <;> idx_vars y
  · exact (group3 x5 x6 x7 x8 x9 _ _ ra rb h6 h8 y0 y1).trans (key _ _ _ _ _ (fun k => by dsimp only; rfl) (by change 0 + 1 * y0.val = _; omega) (by change 384 + 1 * y1.val = 3 * 128 + y1.val; omega))
  · exact (group2 x5 x6 x7 x8 x9 _ _ ra rb h6 h8 y0 y1).trans (key _ _ _ _ _ (fun k => by dsimp only; rfl) (by change 0 + 1 * y0.val = _; omega) (by change 256 + 1 * y1.val = 2 * 128 + y1.val; omega))
  · exact (group1 x5 x6 x7 x8 x9 _ _ ra rb h6 h8 y0 y1).trans (key _ _ _ _ _ (fun k => by dsimp only; rfl) (by change 0 + 1 * y0.val = _; omega) (by change 128 + 1 * y1.val = 1 * 128 + y1.val; omega))
  · exact (group0 x0 x1 x2 x3 x4 x5 x6 x7 x8 x9 h6 h8 ra rb y0 y1).trans (key _ _ _ _ _ (fun k => by change k.val = 0 * 128 + k.val; omega) (by change 0 + 1 * y0.val = _; omega) (by change 0 + 1 * y1.val = 0 * 128 + y1.val; omega))

end Fourier

end
-- ==== Proof.Fourier.Ref.lean ====
/-
  What the reference of the Fourier mixing computes, entry by entry: the sequence's transform in its real part and its
  negated imaginary part, each under the channels' transform of its group, their difference, and the group's weights.
-/
module

public import proofs.«01_k».proof.Proof.Gen.FourierReferenceIdeal.Run
public import proofs.«01_k».proof.Proof.Rope.Finite
public import Idealize.ShloMosaic.Lib.Pointwise

@[expose] public section

set_option maxRecDepth 16384

noncomputable section

namespace Fourier

open Idealize.ShloMosaic Idealize.ShloMosaic.TcCoe Idealize.SL.Sem
open Cert.FourierReferenceIdeal Cert.FourierReferenceIdeal.Gen

/-- The remainder's modulus, a zero replaced by one. -/
def modulus (n : BitVec 32) : IVec S_ 32 :=
  select (cmpi .eq (id (constantI S_ 32 n)) (constantI S_ 32 0#32)) (constantI S_ 32 1#32) (id (constantI S_ 32 n))

/-- The remainder of every entry, with the modulus' sign. -/
def reduced {s : Shape} (hb : S_.BroadcastsInDim s (![] : Fin 0 → Fin s.rank)) (n : BitVec 32) (j : IVec s 32) : IVec s 32 :=
  select (andi (cmpi .ne (cmpi .slt (Host.remsi j (broadcastInDim s ![] hb (modulus n))) (broadcastInDim s ![] hb (constantI S_ 32 0#32))) (broadcastInDim s ![] hb (cmpi .slt (modulus n) (constantI S_ 32 0#32))))
      (cmpi .ne (Host.remsi j (broadcastInDim s ![] hb (modulus n))) (broadcastInDim s ![] hb (constantI S_ 32 0#32))))
    (addi (Host.remsi j (broadcastInDim s ![] hb (modulus n))) (broadcastInDim s ![] hb (modulus n)))
    (Host.remsi j (broadcastInDim s ![] hb (modulus n)))

/-- The angles of the sequence's transform, -/
def angSeq : FVec Ideal S1024x1024 .f32 :=
  mulf (sitofp .f32 (reduced bcast_S_S1024x1024 1024#32 (muli (broadcastInDim S1024x1024 ![0, 1] bcast_S1024x1_S1024x1024_0_1 (broadcastInDim S1024x1 ![0] bcast_S1024_S1024x1_0 (iotaInDim S1024 32 0))) (broadcastInDim S1024x1024 ![0, 1] bcast_S1x1024_S1024x1024_0_1 (broadcastInDim S1x1024 ![1] bcast_S1024_S1x1024_1 (iotaInDim S1024 32 0))))))
    (broadcastInDim S1024x1024 ![] bcast_S_S1024x1024 (constant S_ .f32 0x3BC90FDB#32))

/-- and of the channels'. -/
def angCh : FVec Ideal S128x128 .f32 :=
  mulf (sitofp .f32 (reduced bcast_S_S128x128 128#32 (muli (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))))
    (broadcastInDim S128x128 ![] bcast_S_S128x128 (constant S_ .f32 0x3D490FDB#32))

/-- The transforms' matrices: cosines and sines, scaled to be unitary. -/
def cosSeq : FVec Ideal S1024x1024 .f32 := mulf (Host.cos angSeq) (broadcastInDim S1024x1024 ![] bcast_S_S1024x1024 (constant S_ .f32 0x3D000000#32))
def sinSeq : FVec Ideal S1024x1024 .f32 := mulf (Host.sin angSeq) (broadcastInDim S1024x1024 ![] bcast_S_S1024x1024 (constant S_ .f32 0x3D000000#32))
def cosCh : FVec Ideal S128x128 .f32 := mulf (Host.cos angCh) (broadcastInDim S128x128 ![] bcast_S_S128x128 (constant S_ .f32 0x3DB504F3#32))
def sinCh : FVec Ideal S128x128 .f32 := mulf (Host.sin angCh) (broadcastInDim S128x128 ![] bcast_S_S128x128 (constant S_ .f32 0x3DB504F3#32))

/-- The transform of the sequences under a matrix. -/
def along (tb : FVec Ideal S1024x1024 .f32) (f : FVec Ideal S8192x512 .f32) : FVec Ideal S8x1024x4x128 .f32 :=
  transpose S8x1024x4x128 [0, 3, 1, 2] (Host.dotGeneral dot_S8x1024x4x128_S1024x1024_S8x4x128x1024_1_1_023_0_n_n none (shapeCast _ f shapeCasts_S8192x512_S8x1024x4x128) tb) transposes_S8x4x128x1024_S8x1024x4x128_0_3_1_2

/-- The spectrum's real part. -/
def spec (f : FVec Ideal S8192x512 .f32) : FVec Ideal S8x1024x4x128 .f32 :=
  subf (Host.dotGeneral dot_S8x1024x4x128_S128x128_S8x1024x4x128_3_0_012_1_n_n none (along cosSeq f) cosCh)
    (Host.dotGeneral dot_S8x1024x4x128_S128x128_S8x1024x4x128_3_0_012_1_n_n none (along sinSeq f) sinCh)

/-- The mixing's result. -/
def mixed (f : FVec Ideal S8192x512 .f32) (w : FVec Ideal S1x4x128x128 .f32) : FVec Ideal S8192x512 .bf16 :=
  truncf .bf16 (shapeCast _ (transpose S8x1024x4x128 [2, 3, 0, 1] (Host.dotGeneral dot_S4x128x128_S8x1024x4x128_S4x128x8x1024_1_3_2_01_0_2 none (shapeCast _ w shapeCasts_S1x4x128x128_S4x128x128) (spec f)) transposes_S4x128x8x1024_S8x1024x4x128_2_3_0_1) shapeCasts_S8x1024x4x128_S8192x512) bitsLt_bf16_f32

theorem res_eq (m : (ℓ : Loc nD τ sig) → Buf (Elt Ideal) ℓ) (c : Dev nD) :
    Value.res_out0 m c = mixed (m ((c.tc : Thread nD τ).loc main_arg0)) (m ((c.tc : Thread nD τ).loc main_arg1)) := rfl

variable (f : FVec Ideal S8192x512 .f32) (w : FVec Ideal S1x4x128x128 .f32)

theorem along_apply (tb : FVec Ideal S1024x1024 .f32) (b : Fin 8) (t : Fin 1024) (g : Fin 4) (d : Fin 128) :
    along tb f (ix4 b t g d) = ∑ s : Fin 1024, @HMul.hMul EReal EReal EReal _ (f (ix2 (⟨b.val * 1024 + s.val, by omega⟩ : Fin 8192) (⟨g.val * 128 + d.val, by omega⟩ : Fin 512))) (tb (ix2 t s)) := by
  pointwise [along]

theorem spec_apply (b : Fin 8) (t : Fin 1024) (g : Fin 4) (d : Fin 128) :
    spec f (ix4 b t g d) = @HSub.hSub EReal EReal EReal _ (∑ e : Fin 128, @HMul.hMul EReal EReal EReal _ (along cosSeq f (ix4 b t g e)) (cosCh (ix2 e d)))
      (∑ e : Fin 128, @HMul.hMul EReal EReal EReal _ (along sinSeq f (ix4 b t g e)) (sinCh (ix2 e d))) := by
  pointwise [spec]

theorem mixed_apply (b : Fin 8) (t : Fin 1024) (g : Fin 4) (d : Fin 128) (r : Fin 8192) (l : Fin 512) (hr : r.val = b.val * 1024 + t.val) (hl : l.val = g.val * 128 + d.val) :
    mixed f w (ix2 r l) = ∑ e : Fin 128, @HMul.hMul EReal EReal EReal _ (w (ix4 0 g e d)) (spec f (ix4 b t g e)) := by
  have hg : (⟨l.val / 128, by omega⟩ : Fin 4) = g := Fin.ext (by dsimp only; omega)
  have hd : (⟨l.val % 128, by omega⟩ : Fin 128) = d := Fin.ext (by dsimp only; omega)
  have hb : (⟨r.val / 1024, by omega⟩ : Fin 8) = b := Fin.ext (by dsimp only; omega)
  have ht : (⟨r.val % 1024, by omega⟩ : Fin 1024) = t := Fin.ext (by dsimp only; omega)
  pointwise [mixed]
  simp only [hg, hd, hb, ht]

/-- The words of the angles' steps and of the scales are real numbers. -/
theorem real_words : Rope.IsReal (Ideal.ofBits FTy.f32 0x3BC90FDB#32) ∧ Rope.IsReal (Ideal.ofBits FTy.f32 0x3D490FDB#32)
    ∧ Rope.IsReal (Ideal.ofBits FTy.f32 0x3D000000#32) ∧ Rope.IsReal (Ideal.ofBits FTy.f32 0x3DB504F3#32) := by
  refine ⟨?_, ?_, ?_, ?_⟩ <;>
  · rw [Ideal.ofBits]
    simp only [Ideal.ieee]
    exact ⟨_, by simp; rfl⟩

theorem real_cos {x : EReal} (hx : Rope.IsReal x) : Rope.IsReal (Ideal.cos x) := by
  obtain ⟨a, rfl⟩ := hx
  exact ⟨_, rfl⟩

theorem real_sin {x : EReal} (hx : Rope.IsReal x) : Rope.IsReal (Ideal.sin x) := by
  obtain ⟨a, rfl⟩ := hx
  exact ⟨_, rfl⟩

theorem real_angSeq (i : S1024x1024.Idx) : Rope.IsReal (angSeq i) := .mul ⟨_, rfl⟩ real_words.1
theorem real_angCh (i : S128x128.Idx) : Rope.IsReal (angCh i) := .mul ⟨_, rfl⟩ real_words.2.1

theorem real_cosSeq (i : S1024x1024.Idx) : Rope.IsReal (cosSeq i) := .mul (real_cos (real_angSeq i)) real_words.2.2.1
theorem real_sinSeq (i : S1024x1024.Idx) : Rope.IsReal (sinSeq i) := .mul (real_sin (real_angSeq i)) real_words.2.2.1
theorem real_cosCh (i : S128x128.Idx) : Rope.IsReal (cosCh i) := .mul (real_cos (real_angCh i)) real_words.2.2.2
theorem real_sinCh (i : S128x128.Idx) : Rope.IsReal (sinCh i) := .mul (real_sin (real_angCh i)) real_words.2.2.2

end Fourier

end
-- ==== Proof.Fourier.Tables.lean ====
/-
  The tables that the host code prepares for the Fourier kernel hold each matrix in two parts: the matrix rounded, and
  what the rounding leaves over.
-/
module

public import proofs.«01_k».proof.Proof.Gen.FourierIdeal.Frame
public import proofs.«01_k».proof.Proof.Fourier.Ref

@[expose] public section

set_option maxRecDepth 16384

noncomputable section

namespace Fourier

open Idealize.ShloMosaic Idealize.ShloMosaic.TcCoe Idealize.SL.Sem
open Cert.FourierIdeal Cert.FourierIdeal.Gen

/-- A table's first part: the table rounded. -/
def upper {s : Shape} (x : FVec Ideal s .f32) : FVec Ideal s .bf16 := truncf .bf16 x bitsLt_bf16_f32

/-- Its second part: what the rounding leaves over, rounded. -/
def lower {s : Shape} (x : FVec Ideal s .f32) : FVec Ideal s .bf16 := truncf .bf16 (subf x (extf .f32 (upper x) bitsLt_bf16_f32)) bitsLt_bf16_f32

/-- Over ideal arithmetic the first part is the table itself, -/
theorem upper_apply {s : Shape} (x : FVec Ideal s .f32) (i : s.Idx) : @Eq EReal (upper x i) (x i) := rfl

/-- and of a real table nothing is left over. -/
theorem lower_apply {s : Shape} (x : FVec Ideal s .f32) (i : s.Idx) (h : Rope.IsReal (x i)) : @Eq EReal (lower x i) 0 := h.sub_self

end Fourier

end
-- ==== Proof.Fourier.HostCosSeq.lean ====
/-
  The cosines of the sequence's transform and the weights, as the host code leaves them.
-/
module

public import proofs.«01_k».proof.Proof.Fourier.Tables

@[expose] public section

set_option maxRecDepth 16384

noncomputable section

namespace Fourier

open Idealize.ShloMosaic Idealize.ShloMosaic.TcCoe Idealize.SL.Sem
open Cert.FourierIdeal Cert.FourierIdeal.Gen

/-- The groups' weights, rounded. -/
def groups (w : FVec Ideal S1x4x128x128 .f32) : FVec Ideal S4x128x128 .bf16 :=
  truncf .bf16 (shapeCast _ w shapeCasts_S1x4x128x128_S4x128x128) bitsLt_bf16_f32

variable (m : (ℓ : Loc nD τ sig) → Buf (Elt Ideal) ℓ) (c : Dev nD)

set_option maxHeartbeats 4000000 in
/-- The cosines' first part, -/
theorem host1 : V m c main_v15 = upper cosSeq := by
  change StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.append_nil, List.cons_append, List.nil_append, StableHlo.after_cons, StableHlo.after_nil]
  after_results_steps
  rfl

set_option maxHeartbeats 4000000 in
/-- their second part, -/
theorem host2 : V m c main_v18 = lower cosSeq := by
  change StableHlo.after (List.flatten [hostOps0, hostOps0_1, hostOps0_2, hostOps0_3, hostOps0_4]) (fun b => m (c, b)) (Proc.devRef .tc main_v18) = _
  simp only [hostOps0, hostOps0_1, hostOps0_2, hostOps0_3, hostOps0_4, List.flatten_cons, List.flatten_nil, List.append_nil, List.cons_append, List.nil_append, StableHlo.after_cons, StableHlo.after_nil]
  after_results_steps
  rfl

set_option maxHeartbeats 4000000 in
/-- and the weights, rounded. -/
theorem host9 : V m c main_v1 = groups (m ((c.tc : Thread nD τ).loc main_arg1)) := by
  change StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append, StableHlo.after_cons, StableHlo.after_nil]
  after_results_steps
  rfl

end Fourier

end
-- ==== Proof.Fourier.HostSinSeq.lean ====
/-
  The sines of the sequence's transform, as the host code leaves them.
-/
module

public import proofs.«01_k».proof.Proof.Fourier.Tables

@[expose] public section

set_option maxRecDepth 16384

noncomputable section

namespace Fourier

open Idealize.ShloMosaic Idealize.ShloMosaic.TcCoe Idealize.SL.Sem
open Cert.FourierIdeal Cert.FourierIdeal.Gen

variable (m : (ℓ : Loc nD τ sig) → Buf (Elt Ideal) ℓ) (c : Dev nD)

set_option maxHeartbeats 4000000 in
/-- The sines' first part, -/
theorem host3 : V m c main_v22 = upper sinSeq := by
  change StableHlo.after (List.flatten [hostOps0, hostOps0_1, hostOps0_2, hostOps0_3, hostOps0_4]) (fun b => m (c, b)) (Proc.devRef .tc main_v22) = _
  simp only [hostOps0, hostOps0_1, hostOps0_2, hostOps0_3, hostOps0_4, List.flatten_cons, List.flatten_nil, List.append_nil, List.cons_append, List.nil_append, StableHlo.after_cons, StableHlo.after_nil]
  after_results_steps
  rfl

set_option maxHeartbeats 4000000 in
/-- and their second part. -/
theorem host4 : V m c main_v25 = lower sinSeq := by
  change StableHlo.after (List.flatten [hostOps0, hostOps0_1, hostOps0_2, hostOps0_3, hostOps0_4]) (fun b => m (c, b)) (Proc.devRef .tc main_v25) = _
  simp only [hostOps0, hostOps0_1, hostOps0_2, hostOps0_3, hostOps0_4, List.flatten_cons, List.flatten_nil, List.append_nil, List.cons_append, List.nil_append, StableHlo.after_cons, StableHlo.after_nil]
  after_results_steps
  rfl

end Fourier

end
-- ==== Proof.Fourier.HostCosCh.lean ====
/-
  The cosines of the channels' transform, as the host code leaves them.
-/
module

public import proofs.«01_k».proof.Proof.Fourier.Tables

@[expose] public section

set_option maxRecDepth 16384

noncomputable section

namespace Fourier

open Idealize.ShloMosaic Idealize.ShloMosaic.TcCoe Idealize.SL.Sem
open Cert.FourierIdeal Cert.FourierIdeal.Gen

variable (m : (ℓ : Loc nD τ sig) → Buf (Elt Ideal) ℓ) (c : Dev nD)

set_option maxHeartbeats 4000000 in
/-- The cosines' first part, -/
theorem host5 : V m c main_v39 = upper cosCh := by
  change StableHlo.after (List.flatten [hostOps0, hostOps0_1, hostOps0_2, hostOps0_3, hostOps0_4]) (fun b => m (c, b)) (Proc.devRef .tc main_v39) = _
  simp only [hostOps0, hostOps0_1, hostOps0_2, hostOps0_3, hostOps0_4, List.flatten_cons, List.flatten_nil, List.append_nil, List.cons_append, List.nil_append, StableHlo.after_cons, StableHlo.after_nil]
  after_results_steps
  rfl

set_option maxHeartbeats 4000000 in
/-- and their second part. -/
theorem host6 : V m c main_v42 = lower cosCh := by
  change StableHlo.after (List.flatten [hostOps0, hostOps0_1, hostOps0_2, hostOps0_3, hostOps0_4]) (fun b => m (c, b)) (Proc.devRef .tc main_v42) = _
  simp only [hostOps0, hostOps0_1, hostOps0_2, hostOps0_3, hostOps0_4, List.flatten_cons, List.flatten_nil, List.append_nil, List.cons_append, List.nil_append, StableHlo.after_cons, StableHlo.after_nil]
  after_results_steps
  rfl

end Fourier

end
-- ==== Proof.Fourier.HostSinCh.lean ====
/-
  The sines of the channels' transform, as the host code leaves them.
-/
module

public import proofs.«01_k».proof.Proof.Fourier.Tables

@[expose] public section

set_option maxRecDepth 16384

noncomputable section

namespace Fourier

open Idealize.ShloMosaic Idealize.ShloMosaic.TcCoe Idealize.SL.Sem
open Cert.FourierIdeal Cert.FourierIdeal.Gen

variable (m : (ℓ : Loc nD τ sig) → Buf (Elt Ideal) ℓ) (c : Dev nD)

set_option maxHeartbeats 4000000 in
/-- The sines' first part, -/
theorem host7 : V m c main_v46 = upper sinCh := by
  change StableHlo.after (List.flatten [hostOps0, hostOps0_1, hostOps0_2, hostOps0_3, hostOps0_4]) (fun b => m (c, b)) (Proc.devRef .tc main_v46) = _
  simp only [hostOps0, hostOps0_1, hostOps0_2, hostOps0_3, hostOps0_4, List.flatten_cons, List.flatten_nil, List.append_nil, List.cons_append, List.nil_append, StableHlo.after_cons, StableHlo.after_nil]
  after_results_steps
  rfl

set_option maxHeartbeats 4000000 in
/-- and their second part. -/
theorem host8 : V m c main_v49 = lower sinCh := by
  change StableHlo.after (List.flatten [hostOps0, hostOps0_1, hostOps0_2, hostOps0_3, hostOps0_4]) (fun b => m (c, b)) (Proc.devRef .tc main_v49) = _
  simp only [hostOps0, hostOps0_1, hostOps0_2, hostOps0_3, hostOps0_4, List.flatten_cons, List.flatten_nil, List.append_nil, List.cons_append, List.nil_append, StableHlo.after_cons, StableHlo.after_nil]
  after_results_steps
  rfl

end Fourier

end
-- ==== Proof.Fourier.Blocks.lean ====
/-
  The blocks that one grid point of the Fourier kernel reads, in terms of the arguments as launched: one sequence's
  channels, and the tables and the weights whole.
-/
module

public import proofs.«01_k».proof.Proof.Fourier.HostCosSeq
public import proofs.«01_k».proof.Proof.Fourier.HostSinSeq
public import proofs.«01_k».proof.Proof.Fourier.HostCosCh
public import proofs.«01_k».proof.Proof.Fourier.HostSinCh
public import Idealize.ShloMosaic.Lib.Pointwise
public import Idealize.ShloMosaic.Lib.Pipeline.ValueKit

@[expose] public section

set_option maxRecDepth 16384

noncomputable section

namespace Fourier

open Idealize.ShloMosaic Idealize.ShloMosaic.TcCoe Idealize.SL.Sem
open Cert.FourierIdeal Cert.FourierIdeal.Gen

/-- The grid point's sequence. -/
def pt (t : Fin cfg0.N) : Fin 8 := grid0.coords t 0

/-- The windows' block indices at a point. -/
theorem idx (t : Fin cfg0.N) :
    win0_0.index t = ![(pt t).val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0, 0] ∧ win0_10.index t = ![(pt t).val, 0] := by
  revert t
  decide +kernel

variable (m : (ℓ : Loc nD τ sig) → Buf (Elt Ideal) ℓ) (c : Dev nD) (t : Fin cfg0.N)

theorem blk0 (s : Fin 1024) (l : Fin 512) :
    @Eq EReal (iblk m c 0 t (ix2 s l)) (m ((c.tc : Thread nD τ).loc main_arg0) (ix2 (⟨(pt t).val * 1024 + s.val, by omega⟩ : Fin 8192) l)) := by
  have he : ((cfg0.win 0).blk t).view.emb (ix2 s l) = (ix2 (⟨(pt t).val * 1024 + s.val, by omega⟩ : Fin 8192) l : S8192x512.Idx) := by blk_ext [idx t]
  exact (congrArg (V m c main_arg0) he).trans (congrFun (V_main_arg0 m c) _)

theorem blk1 (i j : Fin 1024) : @Eq EReal (iblk m c 1 t (ix2 i j)) (cosSeq (ix2 i j)) := by
  have he : ((cfg0.win 1).blk t).view.emb (ix2 i j) = (ix2 i j : S1024x1024.Idx) := by blk_ext [idx t]
  exact ((congrArg (V m c main_v15) he).trans (congrFun (host1 m c) _)).trans (upper_apply _ _)

theorem blk2 (i j : Fin 1024) : @Eq EReal (iblk m c 2 t (ix2 i j)) 0 := by
  have he : ((cfg0.win 2).blk t).view.emb (ix2 i j) = (ix2 i j : S1024x1024.Idx) := by blk_ext [idx t]
  exact ((congrArg (V m c main_v18) he).trans (congrFun (host2 m c) _)).trans (lower_apply _ _ (real_cosSeq _))

theorem blk3 (i j : Fin 1024) : @Eq EReal (iblk m c 3 t (ix2 i j)) (sinSeq (ix2 i j)) := by
  have he : ((cfg0.win 3).blk t).view.emb (ix2 i j) = (ix2 i j : S1024x1024.Idx) := by blk_ext [idx t]
  exact ((congrArg (V m c main_v22) he).trans (congrFun (host3 m c) _)).trans (upper_apply _ _)

theorem blk4 (i j : Fin 1024) : @Eq EReal (iblk m c 4 t (ix2 i j)) 0 := by
  have he : ((cfg0.win 4).blk t).view.emb (ix2 i j) = (ix2 i j : S1024x1024.Idx) := by blk_ext [idx t]
  exact ((congrArg (V m c main_v25) he).trans (congrFun (host4 m c) _)).trans (lower_apply _ _ (real_sinSeq _))

theorem blk5 (i j : Fin 128) : @Eq EReal (iblk m c 5 t (ix2 i j)) (cosCh (ix2 i j)) := by
  have he : ((cfg0.win 5).blk t).view.emb (ix2 i j) = (ix2 i j : S128x128.Idx) := by blk_ext [idx t]
  exact ((congrArg (V m c main_v39) he).trans (congrFun (host5 m c) _)).trans (upper_apply _ _)

theorem blk6 (i j : Fin 128) : @Eq EReal (iblk m c 6 t (ix2 i j)) 0 := by
  have he : ((cfg0.win 6).blk t).view.emb (ix2 i j) = (ix2 i j : S128x128.Idx) := by blk_ext [idx t]
  exact ((congrArg (V m c main_v42) he).trans (congrFun (host6 m c) _)).trans (lower_apply _ _ (real_cosCh _))

theorem blk7 (i j : Fin 128) : @Eq EReal (iblk m c 7 t (ix2 i j)) (sinCh (ix2 i j)) := by
  have he : ((cfg0.win 7).blk t).view.emb (ix2 i j) = (ix2 i j : S128x128.Idx) := by blk_ext [idx t]
  exact ((congrArg (V m c main_v46) he).trans (congrFun (host7 m c) _)).trans (upper_apply _ _)

theorem blk8 (i j : Fin 128) : @Eq EReal (iblk m c 8 t (ix2 i j)) 0 := by
  have he : ((cfg0.win 8).blk t).view.emb (ix2 i j) = (ix2 i j : S128x128.Idx) := by blk_ext [idx t]
  exact ((congrArg (V m c main_v49) he).trans (congrFun (host8 m c) _)).trans (lower_apply _ _ (real_sinCh _))

theorem groups_apply (w : FVec Ideal S1x4x128x128 .f32) (g : Fin 4) (e d : Fin 128) : groups w (ix3 g e d) = w (ix4 0 g e d) := by
  pointwise [groups]

theorem blk9 (g : Fin 4) (e d : Fin 128) : @Eq EReal (iblk m c 9 t (ix3 g e d)) (m ((c.tc : Thread nD τ).loc main_arg1) (ix4 0 g e d)) := by
  have he : ((cfg0.win 9).blk t).view.emb (ix3 g e d) = (ix3 g e d : S4x128x128.Idx) := by blk_ext [idx t]
  exact ((congrArg (V m c main_v1) he).trans (congrFun (host9 m c) _)).trans (groups_apply _ g e d)

end Fourier

end
-- ==== Proof.Fourier.Array.lean ====
/-
  The Fourier kernel's array after the run: the reference's result of the same arguments, where the channels are real.
-/
module

public import proofs.«01_k».proof.Proof.Gen.FourierIdeal.Value
public import proofs.«01_k».proof.Proof.Fourier.Block
public import proofs.«01_k».proof.Proof.Fourier.Blocks

@[expose] public section

set_option maxRecDepth 16384

noncomputable section

namespace Fourier

open Idealize.ShloMosaic Idealize.ShloMosaic.TcCoe Idealize.SL.Sem
open Cert.FourierIdeal Cert.FourierIdeal.Gen

variable (m : (ℓ : Loc nD τ sig) → Buf (Elt Ideal) ℓ) (c : Dev nD) (t : Fin cfg0.N)

theorem real_block1 (i j : Fin 1024) : Rope.IsReal (iblk m c 1 t (ix2 i j)) := by
  rw [show @Eq EReal (iblk m c 1 t (ix2 i j)) (cosSeq (ix2 i j)) from blk1 m c t i j]
  exact real_cosSeq _

theorem real_block3 (i j : Fin 1024) : Rope.IsReal (iblk m c 3 t (ix2 i j)) := by
  rw [show @Eq EReal (iblk m c 3 t (ix2 i j)) (sinSeq (ix2 i j)) from blk3 m c t i j]
  exact real_sinSeq _

variable (hf : ∀ i, Rope.IsReal (m ((c.tc : Thread nD τ).loc main_arg0) i))
include hf

theorem real_block0 (s : Fin 1024) (l : Fin 512) : Rope.IsReal (iblk m c 0 t (ix2 s l)) := by
  rw [show @Eq EReal (iblk m c 0 t (ix2 s l)) (m ((c.tc : Thread nD τ).loc main_arg0) (ix2 (⟨(pt t).val * 1024 + s.val, by omega⟩ : Fin 8192) l)) from blk0 m c t s l]
  exact hf _

/-- The point's transform of its sequence under the cosines is the reference's, -/
theorem pay4_ref (r : Fin 1024) (g : Fin 4) (k : Fin 128) (l : Fin 512) (hl : l.val = g.val * 128 + k.val) :
    @Eq EReal (k0_pay4 (iblk m c 0 t) (iblk m c 1 t) (iblk m c 2 t) (ix2 r l)) (along cosSeq (m ((c.tc : Thread nD τ).loc main_arg0)) (ix4 (pt t) r g k)) := by
  have e : l = ⟨g.val * 128 + k.val, by have := g.isLt; have := k.isLt; omega⟩ := Fin.ext hl
  rw [e]
  refine (pay4_apply _ _ _ (real_block0 m c t hf) (blk2 m c t) r _).trans (Eq.trans ?_ (along_apply _ _ (pt t) r g k).symm)
  refine Finset.sum_congr rfl fun s _ => ?_
  rw [show @Eq EReal (iblk m c 1 t (ix2 r s)) (cosSeq (ix2 r s)) from blk1 m c t r s, show @Eq EReal (iblk m c 0 t (ix2 s _)) _ from blk0 m c t s _]
  exact mul_comm _ _

/-- and so is that under the sines. -/
theorem pay5_ref (r : Fin 1024) (g : Fin 4) (k : Fin 128) (l : Fin 512) (hl : l.val = g.val * 128 + k.val) :
    @Eq EReal (k0_pay5 (iblk m c 0 t) (iblk m c 3 t) (iblk m c 4 t) (ix2 r l)) (along sinSeq (m ((c.tc : Thread nD τ).loc main_arg0)) (ix4 (pt t) r g k)) := by
  have e : l = ⟨g.val * 128 + k.val, by have := g.isLt; have := k.isLt; omega⟩ := Fin.ext hl
  rw [e]
  refine (pay4_apply _ _ _ (real_block0 m c t hf) (blk4 m c t) r _).trans (Eq.trans ?_ (along_apply _ _ (pt t) r g k).symm)
  refine Finset.sum_congr rfl fun s _ => ?_
  rw [show @Eq EReal (iblk m c 3 t (ix2 r s)) (sinSeq (ix2 r s)) from blk3 m c t r s, show @Eq EReal (iblk m c 0 t (ix2 s _)) _ from blk0 m c t s _]
  exact mul_comm _ _

theorem point10 (r : Fin 1024) (j : Fin 512) (q : Fin 8192) (l : Fin 512) (hq : q.val = (pt t).val * 1024 + r.val) (hl : l.val = j.val) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r j)
      = mixed (m ((c.tc : Thread nD τ).loc main_arg0)) (m ((c.tc : Thread nD τ).loc main_arg1)) (ix2 q l) := by
  obtain rfl : l = j := Fin.ext hl
  refine (out10 _ _ _ _ _ _ _ _ _ _ (real_block0 m c t hf) (real_block1 m c t) (blk2 m c t) (real_block3 m c t) (blk4 m c t) (blk6 m c t) (blk8 m c t) r l).trans ?_
  refine Eq.trans ?_ (mixed_apply _ _ (pt t) r (⟨l.val / 128, by omega⟩ : Fin 4) (⟨l.val % 128, by omega⟩ : Fin 128) q l hq (by dsimp only; omega)).symm
  unfold mixAt
  refine Finset.sum_congr rfl fun e _ => ?_
  refine (mul_comm _ _).trans (congr (congrArg (@HMul.hMul EReal EReal EReal _) (blk9 m c t _ e _)) ?_)
  refine Eq.trans ?_ (spec_apply _ (pt t) r (⟨l.val / 128, by omega⟩ : Fin 4) e).symm
  refine congr (congrArg (@HSub.hSub EReal EReal EReal _) (Finset.sum_congr rfl fun k _ => ?_)) (Finset.sum_congr rfl fun k _ => ?_)
  · exact congr (congrArg (@HMul.hMul EReal EReal EReal _) (pay4_ref m c t hf r (⟨l.val / 128, by omega⟩ : Fin 4) k _ rfl)) (blk5 m c t k e)
  · exact congr (congrArg (@HMul.hMul EReal EReal EReal _) (pay5_ref m c t hf r (⟨l.val / 128, by omega⟩ : Fin 4) k _ rfl)) (blk7 m c t k e)

/-- The mixing after the run. -/
theorem array10 : (dats m 0 c).arrAt 10 cfg0.N = mixed (m ((c.tc : Thread nD τ).loc main_arg0)) (m ((c.tc : Thread nD τ).loc main_arg1)) := by
  refine (dats m 0 c).arrAt_eq_of_covers 10 _ (by decide +kernel) fun t hb y => ?_
  blk_simp
  rw [after0_10]
  idx_vars y
  exact (point10 m c t hf y0 y1 _ _ (by blk_ext [idx t]) (by blk_ext [idx t])).trans (congrArg _ (eq_ix2 _).symm)

end Fourier

end
-- ==== Proof.Fourier.Pre.lean ====
/-
  What the precondition `finite_channels` says: each element of the channels to mix is a real number.
-/
module

public import proofs.«01_k».proof.Pre_finite_channels
public import proofs.«01_k».proof.Proof.Attn.Pre
public import proofs.«01_k».proof.Proof.Rope.Finite

@[expose] public section

noncomputable section

namespace Fourier

open Idealize.ShloMosaic

variable [Cert.Pre_finite_channels.Facts]

/-- The precondition's array. -/
theorem real_of_pre (f : FVec Ideal ⟨2, ![8192, 512]⟩ .f32) (w : FVec Ideal ⟨4, ![1, 4, 128, 128]⟩ .f32)
    (h : Cert.Pre_finite_channels.fn f w = fun _ => 1#1) : ∀ i, Rope.IsReal (f i) := by
  have h := congrFun h (fun k => k.elim0)
  unfold Cert.Pre_finite_channels.fn at h
  exact fun i => Attn.real_of_all f Cert.Pre_finite_channels.Facts.bcast_S_S8192x512 Cert.Pre_finite_channels.Facts.reducesTo_S8192x512_S_d0_1
    Cert.Pre_finite_channels.Facts.h_S_ _ h i

end Fourier

end
-- ==== Proof.lean ====
/-
  The certificate of five of the layer's calls: each program and its reference run and leave their arguments alone; from
  the same arguments the attention call and its reference give the same array, where the queries and keys are finite
  (Proof/Attn), the merge call and its reference the same four arrays (Proof/Merge), the prompt stream's modulation
  and projection calls and their reference the same six (Proof/Proj), and the latent stream's projection with the rotary
  and its reference the same four, where the arguments are finite (Proof/Rope).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_scores
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjReferenceIdeal
public import proofs.«01_k».proof.Proof.Gen.ProjReferenceIdeal.Run
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeReferenceIdeal
public import proofs.«01_k».proof.Proof.Gen.RopeReferenceIdeal.Run
public import proofs.«01_k».proof.Proof.Gen.Pre_finite_inputs
public import proofs.«01_k».proof.Proof.Gen.Fourier
public import proofs.«01_k».proof.Proof.Gen.Fourier.Frame
public import proofs.«01_k».proof.Proof.Gen.FourierIdeal
public import proofs.«01_k».proof.Proof.Gen.FourierIdeal.Frame
public import proofs.«01_k».proof.Proof.Gen.FourierIdeal.Value
public import proofs.«01_k».proof.Proof.Gen.FourierReferenceIdeal
public import proofs.«01_k».proof.Proof.Gen.FourierReferenceIdeal.Run
public import proofs.«01_k».proof.Proof.Gen.Pre_finite_channels
public import proofs.«01_k».proof.Proof.Attn.Array
public import proofs.«01_k».proof.Proof.Attn.Pre
public import proofs.«01_k».proof.Proof.Merge.Array
public import proofs.«01_k».proof.Proof.Proj.Array
public import proofs.«01_k».proof.Proof.Proj.Run
public import proofs.«01_k».proof.Proof.Rope.Array
public import proofs.«01_k».proof.Proof.Rope.Pre
public import proofs.«01_k».proof.Proof.Fourier.Array
public import proofs.«01_k».proof.Proof.Fourier.Pre
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference runs and leaves its arguments alone. -/
theorem quiescent_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run m g)

/-- The attention call and its reference give the same array. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  pair_intro
  · run_from Cert.KernelIdeal.Value.run_blocks m g
  · run_from Cert.ReferenceIdeal.Value.run m' g'
    obtain ⟨h0, h1, h2, h3, h4, h5, h6, h7, h8, h9⟩ := hagree c
    obtain ⟨hq, hk, hc⟩ := Attn.real_of_pre _ _ _ _ _ _ _ _ _ _ (hpre c)
    rw [Attn.res_eq, Attn.array m c hq hk hc, h0, h1, h2, h3, h4, h5, h6, h7, h8, h9]
    rfl

/-- The merge's reference runs and leaves its arguments alone. -/
theorem quiescent_merge_reference : Cert.quiescent_MergeReferenceIdeal (hMergeReferenceIdeal := Cert.MergeReferenceIdeal.Gen.facts) := fun m g _ =>
  (θ_run (Cert.MergeReferenceIdeal.defs (F := Ideal)) _ _).mono (fun r h => ⟨fun c => (h c).2.2.2.2, sem_eq_zero_of_no_sems (by decide) r.2⟩)
    (Cert.MergeReferenceIdeal.Value.run m g)

/-- The merge call and its reference give the same four arrays. -/
theorem merge : Cert.algebraic_MergeIdeal_MergeReferenceIdeal (hMergeIdeal := Cert.MergeIdeal.Gen.facts)
    (hMergeReferenceIdeal := Cert.MergeReferenceIdeal.Gen.facts) := by
  pair_intro
  · run_from Cert.MergeIdeal.Value.run_blocks m g
  · run_from Cert.MergeReferenceIdeal.Value.run m' g'
    all_goals obtain ⟨h0, h1, h2, h3, h4, h5, h6, h7⟩ := hagree c
    all_goals have hX : Merge.argX m' c = Merge.goalX m c := by unfold Merge.argX Merge.goalX; rw [h0, h1, h2, h3, h5]
    · exact (Merge.array9 m c).symm
    · exact (Merge.res1_eq m' c).trans (by rw [hX, h3, h4, Merge.array10 m c]; rfl)
    · exact (Merge.res2_eq m' c).trans (by rw [hX, h3, h4, h6, h7, Merge.array11 m c]; rfl)
    · exact (Merge.res3_eq m' c).trans (by rw [hX, h3, h4, h6, h7, Merge.array12 m c]; rfl)

/-- The projection's reference runs and leaves its arguments alone. -/
theorem quiescent_proj_reference : Cert.quiescent_ProjReferenceIdeal (hProjReferenceIdeal := Cert.ProjReferenceIdeal.Gen.facts) := fun m g _ =>
  (θ_run (Cert.ProjReferenceIdeal.defs (F := Ideal)) _ _).mono (fun r h => ⟨fun c => (h c).2.2.2.2.2.2, sem_eq_zero_of_no_sems (by decide) r.2⟩)
    (Cert.ProjReferenceIdeal.Value.run m g)

/-- The modulation and projection calls on the prompt stream and their reference give the same six arrays. -/
theorem projection : Cert.algebraic_ProjIdeal_ProjReferenceIdeal (hProjIdeal := Cert.ProjIdeal.Gen.facts)
    (hProjReferenceIdeal := Cert.ProjReferenceIdeal.Gen.facts) := by
  pair_intro
  · run_from Proj.run m g
  · run_from Cert.ProjReferenceIdeal.Value.run m' g'
    · exact (Proj.array4 m g c).symm
    · exact (Proj.array5 m g c).symm
    · exact (Proj.array6 m g c).symm
    · exact (Proj.array7 m g c).symm
    · exact (Proj.array8 m g c).symm
    · exact (Proj.array9 m g c).symm

/-- The latent projection's reference runs and leaves its arguments alone. -/
theorem quiescent_rope_reference : Cert.quiescent_RopeReferenceIdeal (hRopeReferenceIdeal := Cert.RopeReferenceIdeal.Gen.facts) := fun m g _ =>
  (θ_run (Cert.RopeReferenceIdeal.defs (F := Ideal)) _ _).mono (fun r h => ⟨fun c => (h c).2.2.2.2, sem_eq_zero_of_no_sems (by decide) r.2⟩)
    (Cert.RopeReferenceIdeal.Value.run m g)

set_option maxHeartbeats 4000000 in
/-- The latent stream's projection with the rotary and its reference give the same four arrays. -/
theorem latent : Cert.algebraic_RopeIdeal_RopeReferenceIdeal_pre_finite_inputs (hRopeIdeal := Cert.RopeIdeal.Gen.facts)
    (hRopeReferenceIdeal := Cert.RopeReferenceIdeal.Gen.facts) (hPre_finite_inputs := Cert.Pre_finite_inputs.Gen.facts) := by
  pair_intro
  · run_from Cert.RopeIdeal.Value.run_blocks m g
  · run_from Cert.RopeReferenceIdeal.Value.run m' g'
    all_goals obtain ⟨h0, h1, h2, h3⟩ := hagree c
    all_goals obtain ⟨hx, hm, hg, hw⟩ := Rope.real_of_pre _ _ _ _ (hpre c)
    · exact (Rope.res0_eq m' c).trans (by rw [h0, h1, h2, h3, Rope.array6 m c hx hm hg hw]; rfl)
    · exact (Rope.res1_eq m' c).trans (by rw [h0, h1, h2, h3, Rope.array7 m c hx hm hg hw]; rfl)
    · exact (Rope.array8 m c).symm
    · exact (Rope.array9 m c).symm

/-- The Fourier mixing's reference runs and leaves its arguments alone. -/
theorem quiescent_fourier_reference : Cert.quiescent_FourierReferenceIdeal (hFourierReferenceIdeal := Cert.FourierReferenceIdeal.Gen.facts) := fun m g _ =>
  (θ_run (Cert.FourierReferenceIdeal.defs (F := Ideal)) _ _).mono (fun r h => ⟨fun c => (h c).2, sem_eq_zero_of_no_sems (by decide) r.2⟩)
    (Cert.FourierReferenceIdeal.Value.run m g)

set_option maxHeartbeats 4000000 in
/-- The Fourier mixing and its reference give the same array. -/
theorem fourier : Cert.algebraic_FourierIdeal_FourierReferenceIdeal_pre_finite_channels (hFourierIdeal := Cert.FourierIdeal.Gen.facts)
    (hFourierReferenceIdeal := Cert.FourierReferenceIdeal.Gen.facts) (hPre_finite_channels := Cert.Pre_finite_channels.Gen.facts) := by
  pair_intro
  · run_from Cert.FourierIdeal.Value.run_blocks m g
  · run_from Cert.FourierReferenceIdeal.Value.run m' g'
    obtain ⟨h0, h1⟩ := hagree c
    exact (Fourier.res_eq m' c).trans (by rw [h0, h1, Fourier.array10 m c (Fourier.real_of_pre _ _ (hpre c))])

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Proj.Gen.facts, Cert.ProjIdeal.Gen.facts, Cert.ProjReferenceIdeal.Gen.facts,
  Cert.Rope.Gen.facts, Cert.RopeIdeal.Gen.facts, Cert.RopeReferenceIdeal.Gen.facts,
  Cert.Fourier.Gen.facts, Cert.FourierIdeal.Gen.facts, Cert.FourierReferenceIdeal.Gen.facts,
  Cert.Pre_finite_scores.Gen.facts, Cert.Pre_finite_inputs.Gen.facts, Cert.Pre_finite_channels.Gen.facts,
  fun m g _ => Cert.Kernel.Gen.frame m g, fun m g _ => Cert.KernelIdeal.Gen.frame m g, fun m g _ => Cert.KernelIdeal.Gen.frame m g,
  quiescent_reference, fun m g _ => quiescent_reference m g trivial,
  fun m g _ => Cert.Merge.Gen.frame m g, fun m g _ => Cert.MergeIdeal.Gen.frame m g, quiescent_merge_reference,
  fun m g _ => Cert.Proj.Gen.frame m g, fun m g _ => Cert.ProjIdeal.Gen.frame m g, quiescent_proj_reference,
  fun m g _ => Cert.Rope.Gen.frame m g, fun m g _ => Cert.RopeIdeal.Gen.frame m g, fun m g _ => Cert.RopeIdeal.Gen.frame m g,
  quiescent_rope_reference, fun m g _ => quiescent_rope_reference m g trivial,
  fun m g _ => Cert.Fourier.Gen.frame m g, fun m g _ => Cert.FourierIdeal.Gen.frame m g, fun m g _ => Cert.FourierIdeal.Gen.frame m g,
  quiescent_fourier_reference, fun m g _ => quiescent_fourier_reference m g trivial,
  trivial, attention, trivial, merge, trivial, projection, trivial, latent, trivial, fourier⟩

end Cert.Proof

end
